-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x9x1024 : Shape := ⟨3, ![2048, 9, 1024]⟩
abbrev S16x9x5 : Shape := ⟨3, ![16, 9, 5]⟩
abbrev S16 : Shape := ⟨1, ![16]⟩
abbrev S32x16x5 : Shape := ⟨3, ![32, 16, 5]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1280 : Shape := ⟨2, ![64, 1280]⟩
abbrev S2048x9x256x4 : Shape := ⟨4, ![2048, 9, 256, 4]⟩
abbrev S2048x9x4x256 : Shape := ⟨4, ![2048, 9, 4, 256]⟩
abbrev S73728x256 : Shape := ⟨2, ![73728, 256]⟩
abbrev S720 : Shape := ⟨1, ![720]⟩
abbrev S2560 : Shape := ⟨1, ![2560]⟩
abbrev S2048 : Shape := ⟨1, ![2048]⟩
abbrev S4096 : Shape := ⟨1, ![4096]⟩
abbrev S_ : Shape := ⟨0, ![]⟩
abbrev S1 : Shape := ⟨1, ![1]⟩
abbrev S13761 : Shape := ⟨1, ![13761]⟩
abbrev S64x1280x1 : Shape := ⟨3, ![64, 1280, 1]⟩
abbrev S2048x64 : Shape := ⟨2, ![2048, 64]⟩
abbrev S576x256 : Shape := ⟨2, ![576, 256]⟩
abbrev S16x64 : Shape := ⟨2, ![16, 64]⟩
abbrev S64x108 : Shape := ⟨2, ![64, 108]⟩
abbrev S64x96 : Shape := ⟨2, ![64, 96]⟩
abbrev S64x32 : Shape := ⟨2, ![64, 32]⟩
abbrev S64x1 : Shape := ⟨2, ![64, 1]⟩
abbrev S1x4096 : Shape := ⟨2, ![1, 4096]⟩
abbrev S36x256 : Shape := ⟨2, ![36, 256]⟩
abbrev S36x4096 : Shape := ⟨2, ![36, 4096]⟩
abbrev S36x1 : Shape := ⟨2, ![36, 1]⟩
abbrev S36x4095 : Shape := ⟨2, ![36, 4095]⟩
abbrev S108x4096 : Shape := ⟨2, ![108, 4096]⟩
abbrev S64x4096 : Shape := ⟨2, ![64, 4096]⟩
abbrev S16x4096 : Shape := ⟨2, ![16, 4096]⟩
abbrev S32x4096 : Shape := ⟨2, ![32, 4096]⟩
abbrev S32x1 : Shape := ⟨2, ![32, 1]⟩
abbrev S32x4095 : Shape := ⟨2, ![32, 4095]⟩
abbrev S96x4096 : Shape := ⟨2, ![96, 4096]⟩
abbrev S64x4095 : Shape := ⟨2, ![64, 4095]⟩
abbrev S64x16x256 : Shape := ⟨3, ![64, 16, 256]⟩
abbrev S64x16 : Shape := ⟨2, ![64, 16]⟩

abbrev nBuf : Space → Nat
  | .hbm => 31
  | .vmem => 5
  | .smem => 0
  | _ => 0

abbrev bufTy : (tb : Table) → Fin (tcTables nBuf tb) → BufTy
  | .hbm, ⟨0, _⟩ => ⟨S2048x9x1024, .f32⟩
  | .hbm, ⟨1, _⟩ => ⟨S16x9x5, .f32⟩
  | .hbm, ⟨2, _⟩ => ⟨S16, .f32⟩
  | .hbm, ⟨3, _⟩ => ⟨S32x16x5, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1280, .i32⟩
  | .hbm, ⟨12, _⟩ => ⟨S64x1280, .i1⟩
  | .hbm, ⟨13, _⟩ => ⟨S2048x9x256x4, .f32⟩
  | .hbm, ⟨14, _⟩ => ⟨S2048x9x4x256, .f32⟩
  | .hbm, ⟨15, _⟩ => ⟨S73728x256, .f32⟩
  | .hbm, ⟨16, _⟩ => ⟨S720, .f32⟩
  | .hbm, ⟨17, _⟩ => ⟨S2560, .f32⟩
  | .hbm, ⟨18, _⟩ => ⟨S2048, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S1, .f32⟩
  | .hbm, ⟨23, _⟩ => ⟨S13761, .f32⟩
  | .hbm, ⟨24, _⟩ => ⟨S_, .i32⟩
  | .hbm, ⟨25, _⟩ => ⟨S64x1280, .i32⟩
  | .hbm, ⟨26, _⟩ => ⟨S64x1280, .i32⟩
  | .hbm, ⟨27, _⟩ => ⟨S64x1280, .i32⟩
  | .hbm, ⟨28, _⟩ => ⟨S64x1280x1, .i32⟩
  | .hbm, ⟨29, _⟩ => ⟨S64x1280, .f32⟩
  | .hbm, ⟨30, _⟩ => ⟨S2048x64, .f32⟩
  | .local _ .vmem, ⟨0, _⟩ => ⟨S576x256, .f32⟩
  | .local _ .vmem, ⟨1, _⟩ => ⟨S576x256, .f32⟩
  | .local _ .vmem, ⟨2, _⟩ => ⟨S64x1280, .f32⟩
  | .local _ .vmem, ⟨3, _⟩ => ⟨S16x64, .f32⟩
  | .local _ .vmem, ⟨4, _⟩ => ⟨S16x64, .f32⟩
  | _, _ => ⟨S2048x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S576x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048x9x1024 : Shape := ⟨3, ![2048, 9, 1024]⟩
abbrev S16x9x5 : Shape := ⟨3, ![16, 9, 5]⟩
abbrev S16 : Shape := ⟨1, ![16]⟩
abbrev S32x16x5 : Shape := ⟨3, ![32, 16, 5]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩
abbrev S2048x9x1028 : Shape := ⟨3, ![2048, 9, 1028]⟩
abbrev S2048x9x1024x1 : Shape := ⟨4, ![2048, 9, 1024, 1]⟩
abbrev S2048x9x1024x5 : Shape := ⟨4, ![2048, 9, 1024, 5]⟩
abbrev S16x2048x1024 : Shape := ⟨3, ![16, 2048, 1024]⟩
abbrev S2048x16x1024 : Shape := ⟨3, ![2048, 16, 1024]⟩
abbrev S1x16x1 : Shape := ⟨3, ![1, 16, 1]⟩
abbrev S2048x16x512 : Shape := ⟨3, ![2048, 16, 512]⟩
abbrev S2048x16x516 : Shape := ⟨3, ![2048, 16, 516]⟩
abbrev S2048x16x512x1 : Shape := ⟨4, ![2048, 16, 512, 1]⟩
abbrev S2048x16x512x5 : Shape := ⟨4, ![2048, 16, 512, 5]⟩
abbrev S32x2048x512 : Shape := ⟨3, ![32, 2048, 512]⟩
abbrev S2048x32x512 : Shape := ⟨3, ![2048, 32, 512]⟩
abbrev S1x32x1 : Shape := ⟨3, ![1, 32, 1]⟩
abbrev S2048x32x256 : Shape := ⟨3, ![2048, 32, 256]⟩
abbrev S2048x256x32 : Shape := ⟨3, ![2048, 256, 32]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2048x256x64 : Shape := ⟨3, ![2048, 256, 64]⟩
abbrev S2048x64x256 : Shape := ⟨3, ![2048, 64, 256]⟩
abbrev S1x1x64 : Shape := ⟨3, ![1, 1, 64]⟩
abbrev S2048x64 : Shape := ⟨2, ![2048, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S2048x9x1024, .f32⟩
  | .hbm, ⟨1, _⟩ => ⟨S16x9x5, .f32⟩
  | .hbm, ⟨2, _⟩ => ⟨S16, .f32⟩
  | .hbm, ⟨3, _⟩ => ⟨S32x16x5, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S_, .f32⟩
  | .hbm, ⟨13, _⟩ => ⟨S2048x9x1028, .f32⟩
  | .hbm, ⟨14, _⟩ => ⟨S2048x9x1024, .f32⟩
  | .hbm, ⟨15, _⟩ => ⟨S2048x9x1024, .f32⟩
  | .hbm, ⟨16, _⟩ => ⟨S2048x9x1024, .f32⟩
  | .hbm, ⟨17, _⟩ => ⟨S2048x9x1024, .f32⟩
  | .hbm, ⟨18, _⟩ => ⟨S2048x9x1024, .f32⟩
  | .hbm, ⟨19, _⟩ => ⟨S2048x9x1024x1, .f32⟩
  | .hbm, ⟨20, _⟩ => ⟨S2048x9x1024x1, .f32⟩
  | .hbm, ⟨21, _⟩ => ⟨S2048x9x1024x1, .f32⟩
  | .hbm, ⟨22, _⟩ => ⟨S2048x9x1024x1, .f32⟩
  | .hbm, ⟨23, _⟩ => ⟨S2048x9x1024x1, .f32⟩
  | .hbm, ⟨24, _⟩ => ⟨S2048x9x1024x5, .f32⟩
  | .hbm, ⟨25, _⟩ => ⟨S16x2048x1024, .f32⟩
  | .hbm, ⟨26, _⟩ => ⟨S2048x16x1024, .f32⟩
  | .hbm, ⟨27, _⟩ => ⟨S1x16x1, .f32⟩
  | .hbm, ⟨28, _⟩ => ⟨S2048x16x1024, .f32⟩
  | .hbm, ⟨29, _⟩ => ⟨S2048x16x1024, .f32⟩
  | .hbm, ⟨30, _⟩ => ⟨S_, .f32⟩
  | .hbm, ⟨31, _⟩ => ⟨S2048x16x1024, .f32⟩
  | .hbm, ⟨32, _⟩ => ⟨S2048x16x1024, .f32⟩
  | .hbm, ⟨33, _⟩ => ⟨S_, .f32⟩
  | .hbm, ⟨34, _⟩ => ⟨S_, .f32⟩
  | .hbm, ⟨35, _⟩ => ⟨S2048x16x512, .f32⟩
  | .hbm, ⟨36, _⟩ => ⟨S_, .i32⟩
  | .hbm, ⟨37, _⟩ => ⟨S_, .f32⟩
  | .hbm, ⟨38, _⟩ => ⟨S2048x16x516, .f32⟩
  | .hbm, ⟨39, _⟩ => ⟨S2048x16x512, .f32⟩
  | .hbm, ⟨40, _⟩ => ⟨S2048x16x512, .f32⟩
  | .hbm, ⟨41, _⟩ => ⟨S2048x16x512, .f32⟩
  | .hbm, ⟨42, _⟩ => ⟨S2048x16x512, .f32⟩
  | .hbm, ⟨43, _⟩ => ⟨S2048x16x512, .f32⟩
  | .hbm, ⟨44, _⟩ => ⟨S2048x16x512x1, .f32⟩
  | .hbm, ⟨45, _⟩ => ⟨S2048x16x512x1, .f32⟩
  | .hbm, ⟨46, _⟩ => ⟨S2048x16x512x1, .f32⟩
  | .hbm, ⟨47, _⟩ => ⟨S2048x16x512x1, .f32⟩
  | .hbm, ⟨48, _⟩ => ⟨S2048x16x512x1, .f32⟩
  | .hbm, ⟨49, _⟩ => ⟨S2048x16x512x5, .f32⟩
  | .hbm, ⟨50, _⟩ => ⟨S32x2048x512, .f32⟩
  | .hbm, ⟨51, _⟩ => ⟨S2048x32x512, .f32⟩
  | .hbm, ⟨52, _⟩ => ⟨S1x32x1, .f32⟩
  | .hbm, ⟨53, _⟩ => ⟨S2048x32x512, .f32⟩
  | .hbm, ⟨54, _⟩ => ⟨S2048x32x512, .f32⟩
  | .hbm, ⟨55, _⟩ => ⟨S_, .f32⟩
  | .hbm, ⟨56, _⟩ => ⟨S2048x32x512, .f32⟩
  | .hbm, ⟨57, _⟩ => ⟨S2048x32x512, .f32⟩
  | .hbm, ⟨58, _⟩ => ⟨S_, .f32⟩
  | .hbm, ⟨59, _⟩ => ⟨S_, .f32⟩
  | .hbm, ⟨60, _⟩ => ⟨S2048x32x256, .f32⟩
  | .hbm, ⟨61, _⟩ => ⟨S2048x256x32, .f32⟩
  | .hbm, ⟨62, _⟩ => ⟨S256, .i32⟩
  | .hbm, ⟨63, _⟩ => ⟨S256x1, .i32⟩
  | .hbm, ⟨64, _⟩ => ⟨S1x256, .i32⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S256x256, .i32⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S256x256, .f32⟩
  | .hbm, ⟨73, _⟩ => ⟨S_, .f32⟩
  | .hbm, ⟨74, _⟩ => ⟨S256, .f32⟩
  | .hbm, ⟨75, _⟩ => ⟨S256, .f32⟩
  | .hbm, ⟨76, _⟩ => ⟨S256x1, .f32⟩
  | .hbm, ⟨77, _⟩ => ⟨S256x256, .f32⟩
  | .hbm, ⟨78, _⟩ => ⟨S256x256, .f32⟩
  | .hbm, ⟨79, _⟩ => ⟨S1x256, .f32⟩
  | .hbm, ⟨80, _⟩ => ⟨S256x256, .f32⟩
  | .hbm, ⟨81, _⟩ => ⟨S256x256, .f32⟩
  | .hbm, ⟨82, _⟩ => ⟨S2048x256x64, .f32⟩
  | .hbm, ⟨83, _⟩ => ⟨S2048x64x256, .f32⟩
  | .hbm, ⟨84, _⟩ => ⟨S2048x256x64, .f32⟩
  | .hbm, ⟨85, _⟩ => ⟨S1x1x64, .f32⟩
  | .hbm, ⟨86, _⟩ => ⟨S2048x256x64, .f32⟩
  | .hbm, ⟨87, _⟩ => ⟨S2048x256x64, .f32⟩
  | .hbm, ⟨88, _⟩ => ⟨S_, .f32⟩
  | .hbm, ⟨89, _⟩ => ⟨S2048x256x64, .f32⟩
  | .hbm, ⟨90, _⟩ => ⟨S2048x256x64, .f32⟩
  | .hbm, ⟨91, _⟩ => ⟨S2048x256x64, .f32⟩
  | .hbm, ⟨92, _⟩ => ⟨S2048x64x256, .f32⟩
  | .hbm, ⟨93, _⟩ => ⟨S2048x256x64, .f32⟩
  | .hbm, ⟨94, _⟩ => ⟨S1x1x64, .f32⟩
  | .hbm, ⟨95, _⟩ => ⟨S2048x256x64, .f32⟩
  | .hbm, ⟨96, _⟩ => ⟨S2048x256x64, .f32⟩
  | .hbm, ⟨97, _⟩ => ⟨S_, .f32⟩
  | .hbm, ⟨98, _⟩ => ⟨S2048x256x64, .f32⟩
  | .hbm, ⟨99, _⟩ => ⟨S2048x256x64, .f32⟩
  | .hbm, ⟨100, _⟩ => ⟨S_, .f32⟩
  | .hbm, ⟨101, _⟩ => ⟨S2048x64, .f32⟩
  | .hbm, ⟨102, _⟩ => ⟨S_, .f32⟩
  | .hbm, ⟨103, _⟩ => ⟨S2048x64, .f32⟩
  | .hbm, ⟨104, _⟩ => ⟨S2048x64, .f32⟩
  | .hbm, ⟨105, _⟩ => ⟨S2048x64, .f32⟩
  | .hbm, ⟨106, _⟩ => ⟨S1x64, .f32⟩
  | .hbm, ⟨107, _⟩ => ⟨S2048x64, .f32⟩
  | .hbm, ⟨108, _⟩ => ⟨S2048x64, .f32⟩
  | _, _ => ⟨S2048x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_cst : Ref sig .tc := ⟨.hbm, 30, rfl⟩
abbrev main_call1_v0 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_c_0 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call3_cst : Ref sig .tc := ⟨.hbm, 55, rfl⟩
abbrev main_call3_v0 : Ref sig .tc := ⟨.hbm, 56, rfl⟩
abbrev main_v37 : Ref sig .tc := ⟨.hbm, 57, rfl⟩
abbrev main_cst_1 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_2 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call4_cst : Ref sig .tc := ⟨.hbm, 88, rfl⟩
abbrev main_call4_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call5_cst : Ref sig .tc := ⟨.hbm, 97, rfl⟩
abbrev main_call5_v0 : Ref sig .tc := ⟨.hbm, 98, rfl⟩
abbrev main_v72 : Ref sig .tc := ⟨.hbm, 99, rfl⟩
abbrev main_cst_4 : Ref sig .tc := ⟨.hbm, 100, rfl⟩
abbrev main_v73 : Ref sig .tc := ⟨.hbm, 101, rfl⟩
abbrev main_cst_5 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩

abbrev nD : Nat := 1
abbrev τ : Topo := Topo.v7x

variable {F : FTy → Type} [FloatOps F]
-- ==== Proof.Table.lean ====
/- The packed parameters' index table, read by columns: which parameter each entry names. -/
module

public import proofs.«01_k».proof.KernelIdeal

@[expose] public section

set_option maxRecDepth 16384

noncomputable section

namespace Cert.KernelIdeal.Table

open Cert.KernelIdeal Idealize.ShloMosaic

/-- The table's entry of row `r` and column `col`. -/
def entry (r col : ℕ) : ℕ := (lit0t (1280 * r + col)).toNat

/-- The first convolution's columns: a band of five taps, zero (the last parameter) outside. -/
theorem w1_entry : ∀ (r : Fin 64) (j : Fin 108), entry r.val j.val
    = if r.val / 16 + 2 ≤ 4 * (j.val / 36) + j.val % 4 ∧ 4 * (j.val / 36) + j.val % 4 < r.val / 16 + 2 + 5
      then (r.val % 16 * 9 + j.val % 36 / 4) * 5 + (4 * (j.val / 36) + j.val % 4 - (r.val / 16 + 2)) else 13760 := by
  decide +kernel

/-- The second convolution's columns. -/
theorem w2_entry : ∀ (r : Fin 64) (j : Fin 96), entry r.val (128 + j.val)
    = if r.val / 32 ≤ j.val / 16 ∧ j.val / 16 < r.val / 32 + 5 then 720 + ((r.val % 32 * 16 + j.val % 16) * 5 + (j.val / 16 - r.val / 32)) else 13760 := by
  decide +kernel

/-- The first graph convolution's weights, transposed. -/
theorem g1_entry : ∀ (r : Fin 64) (f : Fin 32), entry r.val (256 + f.val) = 3280 + (f.val * 64 + r.val) := by
  decide +kernel

/-- The second graph convolution's weights, transposed. -/
theorem g2_entry : ∀ r f : Fin 64, entry r.val (384 + f.val) = 5328 + (f.val * 64 + r.val) := by
  decide +kernel

/-- The classifier's weights, transposed. -/
theorem fw_entry : ∀ r f : Fin 64, entry r.val (512 + f.val) = 9424 + (f.val * 64 + r.val) := by
  decide +kernel

/-- The five biases, one column each. -/
theorem bias_entry : ∀ r : Fin 64, entry r.val 640 = 13520 + r.val % 16 ∧ entry r.val 768 = 13536 + r.val % 32
    ∧ entry r.val 896 = 13568 + r.val ∧ entry r.val 1024 = 13632 + r.val ∧ entry r.val 1152 = 13696 + r.val := by
  decide +kernel

end Cert.KernelIdeal.Table

end
-- ==== Proof.Flat.lean ====
/- The flat array of all parameters, read at each parameter's offset; and the gather that packs it. -/
module

public import proofs.«01_k».proof.Proof.Gen.KernelIdeal
public import Idealize.ShloMosaic.Lib.Pointwise
public import Idealize.ShloMosaic.Lib.ValueIdxCore

@[expose] public section

set_option maxRecDepth 16384

noncomputable section

namespace Cert.KernelIdeal.Flat

open Cert.KernelIdeal Cert.KernelIdeal.Gen Idealize.ShloMosaic

/-- Entries at equal positions are equal. -/
theorem place {n : ℕ} (p : (⟨1, ![n]⟩ : Shape).Idx → EReal) {i j : Fin n} (h : i.val = j.val) : p (ix1 i) = p (ix1 j) :=
  congrArg p (congrArg ix1 (Fin.ext h))

section Pieces

variable (p1 : FVec Ideal S720 .f32) (p2 : FVec Ideal S2560 .f32) (p3 : FVec Ideal S2048 .f32) (p4 p5 : FVec Ideal S4096 .f32)
    (p6 : FVec Ideal S16 .f32) (p7 : FVec Ideal S32 .f32) (p8 p9 p10 : FVec Ideal S64 .f32) (p11 : FVec Ideal S1 .f32)

/-- The parameters end to end, a zero at the end. -/
def flat : FVec Ideal S13761 .f32 :=
  concatenate S13761 0 [⟨S720, p1⟩, ⟨S2560, p2⟩, ⟨S2048, p3⟩, ⟨S4096, p4⟩, ⟨S4096, p5⟩, ⟨S16, p6⟩, ⟨S32, p7⟩, ⟨S64, p8⟩, ⟨S64, p9⟩, ⟨S64, p10⟩, ⟨S1, p11⟩]
    concatenates_S720_S2560_S2048_S4096_S4096_S16_S32_S64_S64_S64_S1_S13761_d0

/-- The first convolution's weights. -/
theorem flat_w1 (i : Fin 720) : flat p1 p2 p3 p4 p5 p6 p7 p8 p9 p10 p11 (ix1 ⟨i.val, by omega⟩) = p1 (ix1 i) := by
  pointwise [flat]

/-- The second convolution's weights. -/
theorem flat_w2 (i : Fin 2560) : flat p1 p2 p3 p4 p5 p6 p7 p8 p9 p10 p11 (ix1 ⟨720 + i.val, by omega⟩) = p2 (ix1 i) := by
  pointwise [flat]

/-- The first graph convolution's weights. -/
theorem flat_g1 (i : Fin 2048) : flat p1 p2 p3 p4 p5 p6 p7 p8 p9 p10 p11 (ix1 ⟨3280 + i.val, by omega⟩) = p3 (ix1 i) := by
  pointwise [flat]
  iterate 2 refine (dif_neg (by omega)).trans ?_
  exact (dif_pos (by omega)).trans (place _ (by dsimp only; omega))

/-- The second graph convolution's weights. -/
theorem flat_g2 (i : Fin 4096) : flat p1 p2 p3 p4 p5 p6 p7 p8 p9 p10 p11 (ix1 ⟨5328 + i.val, by omega⟩) = p4 (ix1 i) := by
  pointwise [flat]
  iterate 3 refine (dif_neg (by omega)).trans ?_
  exact (dif_pos (by omega)).trans (place _ (by dsimp only; omega))

/-- The classifier's weights. -/
theorem flat_fw (i : Fin 4096) : flat p1 p2 p3 p4 p5 p6 p7 p8 p9 p10 p11 (ix1 ⟨9424 + i.val, by omega⟩) = p5 (ix1 i) := by
  pointwise [flat]
  iterate 4 refine (dif_neg (by omega)).trans ?_
  exact (dif_pos (by omega)).trans (place _ (by dsimp only; omega))

/-- The first convolution's bias. -/
theorem flat_b1 (i : Fin 16) : flat p1 p2 p3 p4 p5 p6 p7 p8 p9 p10 p11 (ix1 ⟨13520 + i.val, by omega⟩) = p6 (ix1 i) := by
  pointwise [flat]
  iterate 5 refine (dif_neg (by omega)).trans ?_
  exact (dif_pos (by omega)).trans (place _ (by dsimp only; omega))

/-- The second convolution's bias. -/
theorem flat_b2 (i : Fin 32) : flat p1 p2 p3 p4 p5 p6 p7 p8 p9 p10 p11 (ix1 ⟨13536 + i.val, by omega⟩) = p7 (ix1 i) := by
  pointwise [flat]
  iterate 6 refine (dif_neg (by omega)).trans ?_
  exact (dif_pos (by omega)).trans (place _ (by dsimp only; omega))

/-- The first graph convolution's bias. -/
theorem flat_c1 (i : Fin 64) : flat p1 p2 p3 p4 p5 p6 p7 p8 p9 p10 p11 (ix1 ⟨13568 + i.val, by omega⟩) = p8 (ix1 i) := by
  pointwise [flat]
  iterate 7 refine (dif_neg (by omega)).trans ?_
  exact (dif_pos (by omega)).trans (place _ (by dsimp only; omega))

/-- The second graph convolution's bias. -/
theorem flat_c2 (i : Fin 64) : flat p1 p2 p3 p4 p5 p6 p7 p8 p9 p10 p11 (ix1 ⟨13632 + i.val, by omega⟩) = p9 (ix1 i) := by
  pointwise [flat]
  iterate 8 refine (dif_neg (by omega)).trans ?_
  exact (dif_pos (by omega)).trans (place _ (by dsimp only; omega))

/-- The classifier's bias. -/
theorem flat_fb (i : Fin 64) : flat p1 p2 p3 p4 p5 p6 p7 p8 p9 p10 p11 (ix1 ⟨13696 + i.val, by omega⟩) = p10 (ix1 i) := by
  pointwise [flat]
  iterate 9 refine (dif_neg (by omega)).trans ?_
  exact (dif_pos (by omega)).trans (place _ (by dsimp only; omega))

/-- The last entry. -/
theorem flat_zero : flat p1 p2 p3 p4 p5 p6 p7 p8 p9 p10 p11 (ix1 ⟨13760, by omega⟩) = p11 (ix1 ⟨0, by omega⟩) := by
  pointwise [flat]

end Pieces

/-- The index table as the gather takes it: no index is negative, so none is wrapped. -/
def look (L : IVec S64x1280 32) : IVec S64x1280x1 32 :=
  broadcastInDim S64x1280x1 ![0, 1] bcast_S64x1280_S64x1280x1_0_1
    (select (constantI S64x1280 1 0#1) (addi L (broadcastInDim S64x1280 ![] bcast_S_S64x1280 (constantI S_ 32 13761#32))) L)

theorem look_apply (L : IVec S64x1280 32) (r : Fin 64) (c : Fin 1280) (k : Fin 1) : look L (ix3 r c k) = L (ix2 r c) := by
  pointwise [look]

/-- The gather read at a row and a column: the parameter whose number the table holds there. -/
theorem gather_at (f : FVec Ideal S13761 .f32) (L : IVec S64x1280 32) (r : Fin 64) (c : Fin 1280) (n : ℕ) (hn : n < 13761)
    (h : (L (ix2 r c)).toNat = n) :
    Host.gather gather_S13761_S64x1280x1_S64x1280_n_0_n_n_0_2_1 f (look L) (ix2 r c) = f (ix1 ⟨n, hn⟩) := by
  refine (ValueIdx.gather_take_apply (by omega) gather_S13761_S64x1280x1_S64x1280_n_0_n_n_0_2_1_wf f (look L) (ix2 r c)).trans ?_
  have e : look L (ValueIdx.takeIdx (ix2 r c)) = L (ix2 r c) := by
    rw [← look_apply L r c 0]
    refine congrArg (look L) (funext fun a => ?_)
    match a with
    | ⟨0, _⟩ => rfl
    | ⟨1, _⟩ => rfl
    | ⟨2, _⟩ => rfl
  refine place f ?_
  show min (look L (ValueIdx.takeIdx (ix2 r c))).toInt.toNat 13760 = n
  rw [e, BitVec.toInt_eq_toNat_of_lt (by omega), h, Int.toNat_natCast]
  omega

end Cert.KernelIdeal.Flat

end
-- ==== Proof.Spec.lean ====
/- The mathematics of the classifier over the extended reals, on arrays read at natural-number coordinates (zero outside
   their extents): two padded convolutions with a pair maximum after each, two graph convolutions over a chain of 256
   nodes, the mean over the nodes and a linear layer. Both programs are shown to compute `out`. -/
module

public import Idealize.ShloMosaic.Lib.Pointwise

@[expose] public section

noncomputable section

namespace Cert.Spec

open Idealize.ShloMosaic

/-- A vector at a natural coordinate, zero outside. -/
def rd1 {a : ℕ} (x : (⟨1, ![a]⟩ : Shape).Idx → EReal) (i : ℕ) : EReal := if h : i < a then x (ix1 ⟨i, h⟩) else 0
/-- A matrix at natural coordinates, zero outside. -/
def rd2 {a b : ℕ} (x : (⟨2, ![a, b]⟩ : Shape).Idx → EReal) (i j : ℕ) : EReal :=
  if h : i < a ∧ j < b then x (ix2 ⟨i, h.1⟩ ⟨j, h.2⟩) else 0
/-- A rank-3 array at natural coordinates, zero outside. -/
def rd3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem rd1_of {a : ℕ} (x : (⟨1, ![a]⟩ : Shape).Idx → EReal) (i : Fin a) : rd1 x i.val = x (ix1 i) := by
  rw [rd1, dif_pos i.isLt]
theorem rd2_of {a b : ℕ} (x : (⟨2, ![a, b]⟩ : Shape).Idx → EReal) (i : Fin a) (j : Fin b) :
    rd2 x i.val j.val = x (ix2 i j) := by
  rw [rd2, dif_pos ⟨i.isLt, j.isLt⟩]
theorem rd3_of {a b c : ℕ} (x : (⟨3, ![a, b, c]⟩ : Shape).Idx → EReal) (i : Fin a) (j : Fin b) (k : Fin c) :
    rd3 x i.val j.val k.val = x (ix3 i j k) := by
  rw [rd3, dif_pos ⟨i.isLt, j.isLt, k.isLt⟩]

/-- The eleven arguments at natural coordinates. -/
structure Par where
  x : ℕ → ℕ → ℕ → EReal
  w1 : ℕ → ℕ → ℕ → EReal
  b1 : ℕ → EReal
  w2 : ℕ → ℕ → ℕ → EReal
  b2 : ℕ → EReal
  g1 : ℕ → ℕ → EReal
  c1 : ℕ → EReal
  g2 : ℕ → ℕ → EReal
  c2 : ℕ → EReal
  fw : ℕ → ℕ → EReal
  fb : ℕ → EReal

/-- The arguments as arrays, read at natural coordinates. -/
def par (x0 : (⟨3, ![2048, 9, 1024]⟩ : Shape).Idx → EReal) (x1 : (⟨3, ![16, 9, 5]⟩ : Shape).Idx → EReal)
    (x2 : (⟨1, ![16]⟩ : Shape).Idx → EReal) (x3 : (⟨3, ![32, 16, 5]⟩ : Shape).Idx → EReal)
    (x4 : (⟨1, ![32]⟩ : Shape).Idx → EReal) (x5 : (⟨2, ![32, 64]⟩ : Shape).Idx → EReal)
    (x6 : (⟨1, ![64]⟩ : Shape).Idx → EReal) (x7 : (⟨2, ![64, 64]⟩ : Shape).Idx → EReal)
    (x8 : (⟨1, ![64]⟩ : Shape).Idx → EReal) (x9 : (⟨2, ![64, 64]⟩ : Shape).Idx → EReal)
    (x10 : (⟨1, ![64]⟩ : Shape).Idx → EReal) : Par :=
  ⟨rd3 x0, rd3 x1, rd1 x2, rd3 x3, rd1 x4, rd2 x5, rd1 x6, rd2 x7, rd1 x8, rd2 x9, rd1 x10⟩

/-- The series moved four places to the right with zeros before it. -/
def pad4 (x : ℕ → ℕ → ℕ → EReal) (b c m : ℕ) : EReal := if m < 4 then 0 else x b c (m - 4)

/-- The series of length `L` moved two places to the right with zeros on both sides. -/
def pad2 (L : ℕ) (y : ℕ → ℕ → ℕ → EReal) (b c m : ℕ) : EReal := if 2 ≤ m ∧ m < L + 2 then y b c (m - 2) else 0

/-- A convolution of width five over `C` channels of a padded series. -/
def conv (C : ℕ) (w : ℕ → ℕ → ℕ → EReal) (bias : ℕ → EReal) (xp : ℕ → ℕ → ℕ → EReal) (b o n : ℕ) : EReal :=
  (∑ k ∈ Finset.range 5, ∑ c ∈ Finset.range C, w o c k * xp b c (n + k)) + bias o

/-- The first convolution, rectified. -/
def act1 (p : Par) (b o n : ℕ) : EReal := max (conv 9 p.w1 p.b1 (fun b c m => pad4 p.x b c (m + 2)) b o n) 0
/-- Its maxima over pairs of positions. -/
def pool1 (p : Par) (b o m : ℕ) : EReal := max (act1 p b o (2 * m)) (act1 p b o (2 * m + 1))
/-- The second convolution, rectified. -/
def act2 (p : Par) (b o n : ℕ) : EReal := max (conv 16 p.w2 p.b2 (pad2 512 (pool1 p)) b o n) 0
/-- Its maxima over pairs of positions: the features of the nodes. -/
def pool2 (p : Par) (b o m : ℕ) : EReal := max (act2 p b o (2 * m)) (act2 p b o (2 * m + 1))

/-- The reciprocal square root of a node's degree: two at the ends of the chain, three inside. -/
def dinv (t : ℕ) : EReal := if t = 0 ∨ t = 255 then Ideal.rsqrt ((2 : ℝ) : EReal) else Ideal.rsqrt ((3 : ℝ) : EReal)

/-- A node's features times a matrix. -/
def lin (K : ℕ) (n : ℕ → ℕ → ℕ → EReal) (W : ℕ → ℕ → EReal) (b o t : ℕ) : EReal :=
  ∑ f ∈ Finset.range K, n b f t * W f o

/-- What a node receives from its two neighbours and from itself, each message scaled by both ends' `dinv`. -/
def mix (h : ℕ → EReal) (t : ℕ) : EReal :=
  ((if 1 ≤ t then h (t - 1) * (dinv (t - 1) * dinv t) else 0)
    + (if t ≤ 254 then h (t + 1) * (dinv (t + 1) * dinv t) else 0)) + h t * (dinv t * dinv t)

/-- One graph convolution over the chain, rectified. -/
def gcn (K : ℕ) (n : ℕ → ℕ → ℕ → EReal) (W : ℕ → ℕ → EReal) (bias : ℕ → EReal) (b o t : ℕ) : EReal :=
  max (mix (lin K n W b o) t + bias o) 0

/-- The features after the first graph convolution. -/
def node1 (p : Par) : ℕ → ℕ → ℕ → EReal := gcn 32 (pool2 p) p.g1 p.c1
/-- The features after the second graph convolution. -/
def node2 (p : Par) : ℕ → ℕ → ℕ → EReal := gcn 64 (node1 p) p.g2 p.c2

/-- The mean over the nodes. -/
def mean (p : Par) (b k : ℕ) : EReal := (∑ t ∈ Finset.range 256, node2 p b k t) * ((1 / 256 : ℝ) : EReal)

/-- The classifier's score of class `o` for series `b`. -/
def out (p : Par) (b o : ℕ) : EReal := (∑ k ∈ Finset.range 64, mean p b k * p.fw k o) + p.fb o

/-! ## `dinv` is a non-negative real -/

theorem rsqrt_two_coe : Ideal.rsqrt ((2 : ℝ) : EReal) = (((Real.sqrt 2)⁻¹ : ℝ) : EReal) := by
  rw [Ideal.rsqrt_coe, if_neg (by norm_num), if_neg (by norm_num)]
theorem rsqrt_three_coe : Ideal.rsqrt ((3 : ℝ) : EReal) = (((Real.sqrt 3)⁻¹ : ℝ) : EReal) := by
  rw [Ideal.rsqrt_coe, if_neg (by norm_num), if_neg (by norm_num)]

theorem dinv_nonneg (t : ℕ) : 0 ≤ dinv t := by
  unfold dinv
  split_ifs
  · rw [rsqrt_two_coe]; exact_mod_cast inv_nonneg.2 (Real.sqrt_nonneg 2)
  · rw [rsqrt_three_coe]; exact_mod_cast inv_nonneg.2 (Real.sqrt_nonneg 3)

theorem dinv_ne_top (t : ℕ) : dinv t ≠ ⊤ := by
  unfold dinv
  split_ifs
  · rw [rsqrt_two_coe]; exact EReal.coe_ne_top _
  · rw [rsqrt_three_coe]; exact EReal.coe_ne_top _

/-- Scaling by the receiving end's `dinv` may be done after the messages are added: `dinv` is a non-negative real. -/
theorem mix_eq (h : ℕ → EReal) (t : ℕ) :
    (h t * dinv t + (if t = 0 then 0 else h (t - 1) * dinv (t - 1))
        + (if t = 255 then 0 else h (t + 1) * dinv (t + 1))) * dinv t
      = ((if t = 0 then 0 else h (t - 1) * (dinv (t - 1) * dinv t))
        + (if t = 255 then 0 else h (t + 1) * (dinv (t + 1) * dinv t))) + h t * (dinv t * dinv t) := by
  have D := fun a b => EReal.right_distrib_of_nonneg_of_ne_top (dinv_nonneg t) (dinv_ne_top t) a b
  rw [D, D, add_assoc, add_comm]
  simp only [ite_mul, zero_mul, mul_assoc]

/-- The same for a node of the chain, against `mix`. -/
theorem mix_of_lt (h : ℕ → EReal) (t : ℕ) (ht : t < 256) :
    (h t * dinv t + (if t = 0 then 0 else h (t - 1) * dinv (t - 1))
        + (if t = 255 then 0 else h (t + 1) * dinv (t + 1))) * dinv t = mix h t := by
  rw [mix_eq, mix]
  congr 2
  · by_cases h0 : t = 0
    · rw [if_pos h0, if_neg (by omega)]
    · rw [if_neg h0, if_pos (by omega)]
  · by_cases h0 : t = 255
    · rw [if_pos h0, if_neg (by omega)]
    · rw [if_neg h0, if_pos (by omega)]

/-! ## The banded matrices of the two convolutions -/

/-- A sum over `m * n` places, row by row. -/
theorem sum_range_mul (m n : ℕ) (f : ℕ → EReal) :
    ∑ j ∈ Finset.range (m * n), f j = ∑ a ∈ Finset.range m, ∑ c ∈ Finset.range n, f (n * a + c) := by
  induction m with
  | zero => simp
  | succ m ih => rw [Nat.succ_mul, Finset.sum_range_add, ih, Finset.sum_range_succ, Nat.mul_comm m n]

/-- A band of five among `E` places: the sum over the places is the sum over the band. -/
theorem sum_band (E s : ℕ) (hs : s + 5 ≤ E) (w : ℕ → EReal) (y : ℕ → EReal) :
    ∑ e ∈ Finset.range E, (if s ≤ e ∧ e < s + 5 then w (e - s) else 0) * y e
      = ∑ k ∈ Finset.range 5, w k * y (s + k) := by
  obtain ⟨r, rfl⟩ : ∃ r, E = s + (5 + r) := ⟨E - s - 5, by omega⟩
  rw [Finset.sum_range_add, Finset.sum_range_add]
  have z1 : ∑ e ∈ Finset.range s, (if s ≤ e ∧ e < s + 5 then w (e - s) else 0) * y e = 0 :=
    Finset.sum_eq_zero fun e he => by
      have := Finset.mem_range.1 he
      rw [if_neg (by omega), zero_mul]
  have z2 : ∑ e ∈ Finset.range r, (if s ≤ s + (5 + e) ∧ s + (5 + e) < s + 5 then w (s + (5 + e) - s) else 0)
      * y (s + (5 + e)) = 0 :=
    Finset.sum_eq_zero fun e he => by rw [if_neg (by omega), zero_mul]
  rw [z1, z2, zero_add, add_zero]
  refine Finset.sum_congr rfl fun k hk => ?_
  have := Finset.mem_range.1 hk
  rw [if_pos (by omega), Nat.add_sub_cancel_left]

/-- The first convolution as one product: the rows of a column `j = 36 q + 4 c + r` stand for channel `c` at place
    `4 q + r`, and the weights of output phase `p` are a band of five starting at place `p + 2`. -/
theorem band1 (w : ℕ → ℕ → EReal) (y : ℕ → ℕ → EReal) (p : ℕ) (hp : p < 4) :
    ∑ j ∈ Finset.range 108,
        (if p + 2 ≤ 4 * (j / 36) + j % 4 ∧ 4 * (j / 36) + j % 4 < p + 2 + 5
          then w (j % 36 / 4) (4 * (j / 36) + j % 4 - (p + 2)) else 0) * y (j % 36 / 4) (4 * (j / 36) + j % 4)
      = ∑ k ∈ Finset.range 5, ∑ c ∈ Finset.range 9, w c k * y c (p + 2 + k) := by
  rw [show (108 : ℕ) = 3 * (9 * 4) from rfl, sum_range_mul]
  simp only [sum_range_mul]
  rw [Finset.sum_comm (s := Finset.range 5), Finset.sum_comm]
  refine Finset.sum_congr rfl fun c hc => ?_
  have hc := Finset.mem_range.1 hc
  rw [← sum_band 12 (p + 2) (by omega) (w c) (y c), show (12 : ℕ) = 3 * 4 from rfl, sum_range_mul]
  refine Finset.sum_congr rfl fun q hq => Finset.sum_congr rfl fun r hr => ?_
  have hr := Finset.mem_range.1 hr
  have e1 : (9 * 4 * q + (4 * c + r)) / 36 = q := by omega
  have e2 : (9 * 4 * q + (4 * c + r)) % 4 = r := by omega
  have e3 : (9 * 4 * q + (4 * c + r)) % 36 / 4 = c := by omega
  rw [e1, e2, e3]

/-- The second convolution as one product: column `j = 32 q + 16 r + c` stands for channel `c` at place `2 q + r`. -/
theorem band2 (w : ℕ → ℕ → EReal) (y : ℕ → ℕ → EReal) (p : ℕ) (hp : p < 2) :
    ∑ j ∈ Finset.range 96,
        (if p ≤ j / 16 ∧ j / 16 < p + 5 then w (j % 16) (j / 16 - p) else 0) * y (j % 16) (j / 16)
      = ∑ k ∈ Finset.range 5, ∑ c ∈ Finset.range 16, w c k * y c (p + k) := by
  rw [show (96 : ℕ) = 6 * 16 from rfl, sum_range_mul, Finset.sum_comm (s := Finset.range 5), Finset.sum_comm]
  refine Finset.sum_congr rfl fun c hc => ?_
  have hc := Finset.mem_range.1 hc
  rw [← sum_band 6 p (by omega) (w c) (y c)]
  refine Finset.sum_congr rfl fun q hq => ?_
  have e1 : (16 * q + c) / 16 = q := by omega
  have e2 : (16 * q + c) % 16 = c := by omega
  rw [e1, e2]

end Cert.Spec

end
-- ==== Proof.Stages.lean ====
/- The stages of the kernel's body, each a function of whole vectors, and what each holds at a row and a lane. Lane
   `256 * s + t` of a vector is position `t` of the block's series `s`. -/
module

public import proofs.«01_k».proof.Proof.Spec
public import proofs.«01_k».proof.Proof.Gen.KernelIdeal.Value

@[expose] public section

set_option maxRecDepth 16384

noncomputable section

namespace Cert.KernelIdeal.Stages

open Cert.KernelIdeal Cert.KernelIdeal.Gen Cert.Spec Idealize.ShloMosaic

/-! ## Masks and the degree factor -/

/-- The first mask marks position 0 of every series. -/
theorem first_apply (l : Fin 4096) : k0_pay14 (ix2 0 l) = if l.val % 256 = 0 then 1#1 else 0#1 := by
  pointwise [k0_pay14, k0_pay13]
  revert l
  decide +kernel

/-- The second mask marks position 255 of every series. -/
theorem last_apply (l : Fin 4096) : k0_pay15 (ix2 0 l) = if l.val % 256 = 255 then 1#1 else 0#1 := by
  pointwise [k0_pay15, k0_pay13]
  revert l
  decide +kernel

/-- The degree factor of a lane is that of its position. -/
theorem deg_apply (l : Fin 4096) : k0_pay30 (F := Ideal) k0_pay14 k0_pay15 (ix2 0 l) = dinv (l.val % 256) := by
  have h2 : Ideal.ofBits FTy.f32 1073741824#32 = ((2 : ℝ) : EReal) := by
    simp [Ideal.ofBits, Ideal.ieee, -EReal.coe_mul]; norm_num
  have h3 : Ideal.ofBits FTy.f32 1077936128#32 = ((3 : ℝ) : EReal) := by
    simp [Ideal.ofBits, Ideal.ieee, -EReal.coe_mul]; norm_num
  pointwise [k0_pay30]
  rw [first_apply, last_apply, h2, h3]
  unfold dinv
  by_cases h0 : l.val % 256 = 0
  · rw [if_pos h0, if_neg (by omega), if_pos (Or.inl h0)]; rfl
  · by_cases h1 : l.val % 256 = 255
    · rw [if_neg h0, if_pos h1, if_pos (Or.inr h1)]; rfl
    · rw [if_neg h0, if_neg h1, if_neg (by omega)]; rfl

/-! ## The stages -/

/-- The sixteen series of a block side by side. -/
def lanes (x : FVec Ideal S576x256 .f32) : FVec Ideal S36x4096 .f32 :=
  concatenate S36x4096 1 [⟨S36x256, k0_pay17 x⟩, ⟨S36x256, k0_pay18 x⟩, ⟨S36x256, k0_pay19 x⟩, ⟨S36x256, k0_pay20 x⟩, ⟨S36x256, k0_pay21 x⟩, ⟨S36x256, k0_pay22 x⟩, ⟨S36x256, k0_pay23 x⟩, ⟨S36x256, k0_pay24 x⟩, ⟨S36x256, k0_pay25 x⟩, ⟨S36x256, k0_pay26 x⟩, ⟨S36x256, k0_pay27 x⟩, ⟨S36x256, k0_pay28 x⟩,
    ⟨S36x256, extractStridedSlice S36x256 ![432, 0] (k0_pay16 x) slices_S576x256_o432_0_S36x256⟩,
    ⟨S36x256, extractStridedSlice S36x256 ![468, 0] (k0_pay16 x) slices_S576x256_o468_0_S36x256⟩,
    ⟨S36x256, extractStridedSlice S36x256 ![504, 0] (k0_pay16 x) slices_S576x256_o504_0_S36x256⟩,
    ⟨S36x256, extractStridedSlice S36x256 ![540, 0] (k0_pay16 x) slices_S576x256_o540_0_S36x256⟩]
    concatenates_S36x256_S36x256_S36x256_S36x256_S36x256_S36x256_S36x256_S36x256_S36x256_S36x256_S36x256_S36x256_S36x256_S36x256_S36x256_S36x256_S36x4096_d1

/-- Thirty-six rows at the position before, at the position and at the position after. -/
def stack1 (a : FVec Ideal S36x4096 .f32) : FVec Ideal S108x4096 .f32 :=
  concatenate S108x4096 0
    [⟨S36x4096, select (broadcastTo S36x4096 (shapeCast S1x4096 k0_pay14 shapeCasts_S1x4096_S1x4096) broadcasts_S1x4096_S36x4096)
        (broadcast S36x4096 (Scalar.ofBits (F := Ideal) .f32 0x00000000#32))
        (concatenate S36x4096 1 [⟨S36x1, broadcast S36x1 (Scalar.ofBits (F := Ideal) .f32 0x00000000#32)⟩,
          ⟨S36x4095, extractStridedSlice S36x4095 ![0, 0] a slices_S36x4096_o0_0_S36x4095⟩] concatenates_S36x1_S36x4095_S36x4096_d1)⟩,
     ⟨S36x4096, a⟩,
     ⟨S36x4096, select (broadcastTo S36x4096 (shapeCast S1x4096 k0_pay15 shapeCasts_S1x4096_S1x4096) broadcasts_S1x4096_S36x4096)
        (broadcast S36x4096 (Scalar.ofBits (F := Ideal) .f32 0x00000000#32))
        (concatenate S36x4096 1 [⟨S36x4095, extractStridedSlice S36x4095 ![0, 1] a slices_S36x4096_o0_1_S36x4095⟩,
          ⟨S36x1, broadcast S36x1 (Scalar.ofBits (F := Ideal) .f32 0x00000000#32)⟩] concatenates_S36x4095_S36x1_S36x4096_d1)⟩]
    concatenates_S36x4096_S36x4096_S36x4096_S108x4096_d0

/-- Thirty-two rows at the position before, at the position and at the position after. -/
def stack2 (a : FVec Ideal S32x4096 .f32) : FVec Ideal S96x4096 .f32 :=
  concatenate S96x4096 0
    [⟨S32x4096, select (broadcastTo S32x4096 (shapeCast S1x4096 k0_pay14 shapeCasts_S1x4096_S1x4096) broadcasts_S1x4096_S32x4096)
        (broadcast S32x4096 (Scalar.ofBits (F := Ideal) .f32 0x00000000#32))
        (concatenate S32x4096 1 [⟨S32x1, broadcast S32x1 (Scalar.ofBits (F := Ideal) .f32 0x00000000#32)⟩,
          ⟨S32x4095, extractStridedSlice S32x4095 ![0, 0] a slices_S32x4096_o0_0_S32x4095⟩] concatenates_S32x1_S32x4095_S32x4096_d1)⟩,
     ⟨S32x4096, a⟩,
     ⟨S32x4096, select (broadcastTo S32x4096 (shapeCast S1x4096 k0_pay15 shapeCasts_S1x4096_S1x4096) broadcasts_S1x4096_S32x4096)
        (broadcast S32x4096 (Scalar.ofBits (F := Ideal) .f32 0x00000000#32))
        (concatenate S32x4096 1 [⟨S32x4095, extractStridedSlice S32x4095 ![0, 1] a slices_S32x4096_o0_1_S32x4095⟩,
          ⟨S32x1, broadcast S32x1 (Scalar.ofBits (F := Ideal) .f32 0x00000000#32)⟩] concatenates_S32x4095_S32x1_S32x4096_d1)⟩]
    concatenates_S32x4096_S32x4096_S32x4096_S96x4096_d0

/-- A vector at the position before and at the position after, zero beyond the ends of a series. -/
def before (g : FVec Ideal S64x4096 .f32) : FVec Ideal S64x4096 .f32 :=
  select (broadcastTo S64x4096 (shapeCast S1x4096 k0_pay14 shapeCasts_S1x4096_S1x4096) broadcasts_S1x4096_S64x4096)
    (broadcast S64x4096 (Scalar.ofBits (F := Ideal) .f32 0x00000000#32))
    (concatenate S64x4096 1 [⟨S64x1, k0_pay32 (F := Ideal)⟩,
      ⟨S64x4095, extractStridedSlice S64x4095 ![0, 0] g slices_S64x4096_o0_0_S64x4095⟩] concatenates_S64x1_S64x4095_S64x4096_d1)
@[inherit_doc before]
def after (g : FVec Ideal S64x4096 .f32) : FVec Ideal S64x4096 .f32 :=
  select (broadcastTo S64x4096 (shapeCast S1x4096 k0_pay15 shapeCasts_S1x4096_S1x4096) broadcasts_S1x4096_S64x4096)
    (broadcast S64x4096 (Scalar.ofBits (F := Ideal) .f32 0x00000000#32))
    (concatenate S64x4096 1 [⟨S64x4095, extractStridedSlice S64x4095 ![0, 1] g slices_S64x4096_o0_1_S64x4095⟩,
      ⟨S64x1, k0_pay32 (F := Ideal)⟩] concatenates_S64x4095_S64x1_S64x4096_d1)

/-- The first convolution, rectified: four output positions of sixteen channels to a lane. -/
def conv1 (w : FVec Ideal S64x108 .f32) (bias : FVec Ideal S64x1 .f32) (a : FVec Ideal S36x4096 .f32) : FVec Ideal S64x4096 .f32 :=
  maximumf (addf (matmul dot_S64x108_S108x4096_S64x4096_1_0_0_1_n_n none w (stack1 a) (constant S64x4096 .f32 0x00000000#32))
    (broadcastTo S64x4096 bias broadcasts_S64x1_S64x4096)) (broadcast S64x4096 (Scalar.ofBits (F := Ideal) .f32 0x00000000#32))

/-- The maxima of its pairs of positions. -/
def pairs1 (h : FVec Ideal S64x4096 .f32) : FVec Ideal S32x4096 .f32 :=
  concatenate S32x4096 0
    [⟨S16x4096, maximumf (extractStridedSlice S16x4096 ![0, 0] h slices_S64x4096_o0_0_S16x4096)
        (extractStridedSlice S16x4096 ![16, 0] h slices_S64x4096_o16_0_S16x4096)⟩,
     ⟨S16x4096, maximumf (extractStridedSlice S16x4096 ![32, 0] h slices_S64x4096_o32_0_S16x4096)
        (extractStridedSlice S16x4096 ![48, 0] h slices_S64x4096_o48_0_S16x4096)⟩]
    concatenates_S16x4096_S16x4096_S32x4096_d0

/-- The second convolution, rectified: two output positions of thirty-two channels to a lane. -/
def conv2 (w : FVec Ideal S64x96 .f32) (bias : FVec Ideal S64x1 .f32) (a : FVec Ideal S32x4096 .f32) : FVec Ideal S64x4096 .f32 :=
  maximumf (addf (matmul dot_S64x96_S96x4096_S64x4096_1_0_0_1_n_n none w (stack2 a) (constant S64x4096 .f32 0x00000000#32))
    (broadcastTo S64x4096 bias broadcasts_S64x1_S64x4096)) (broadcast S64x4096 (Scalar.ofBits (F := Ideal) .f32 0x00000000#32))

/-- The maxima of its pairs of positions. -/
def pairs2 (h : FVec Ideal S64x4096 .f32) : FVec Ideal S32x4096 .f32 :=
  maximumf (extractStridedSlice S32x4096 ![0, 0] h slices_S64x4096_o0_0_S32x4096)
    (extractStridedSlice S32x4096 ![32, 0] h slices_S64x4096_o32_0_S32x4096)

/-- Scaling by the degree factor. -/
def scale (g : FVec Ideal S64x4096 .f32) : FVec Ideal S64x4096 .f32 :=
  mulf g (broadcastTo S64x4096 (k0_pay30 (F := Ideal) k0_pay14 k0_pay15) broadcasts_S1x4096_S64x4096)

/-- A graph convolution's aggregation of scaled features, rectified. -/
def aggregate (g : FVec Ideal S64x4096 .f32) (bias : FVec Ideal S64x1 .f32) : FVec Ideal S64x4096 .f32 :=
  maximumf (addf (scale (addf (addf g (before g)) (after g))) (broadcastTo S64x4096 bias broadcasts_S64x1_S64x4096))
    (broadcast S64x4096 (Scalar.ofBits (F := Ideal) .f32 0x00000000#32))

/-- The first linear map of the nodes' features. -/
def lin1 (w : FVec Ideal S64x32 .f32) (n : FVec Ideal S32x4096 .f32) : FVec Ideal S64x4096 .f32 :=
  matmul dot_S64x32_S32x4096_S64x4096_1_0_0_1_n_n none w n (constant S64x4096 .f32 0x00000000#32)

/-- The second linear map of the nodes' features. -/
def lin2 (w : FVec Ideal S64x64 .f32) (n : FVec Ideal S64x4096 .f32) : FVec Ideal S64x4096 .f32 :=
  matmul dot_S64x64_S64x4096_S64x4096_1_0_0_1_n_n none w n (constant S64x4096 .f32 0x00000000#32)

/-- The sum over the nodes times one 256th. -/
def meanOf (n : FVec Ideal S64x4096 .f32) : FVec Ideal S64x16 .f32 :=
  mulf (multiReduction .add [2] S64x16 (shapeCast S64x16x256 n shapeCasts_S64x4096_S64x16x256) 0x00000000#32 reduces_S64x16x256_S64x16 (.inl rfl) rfl)
    (broadcast S64x16 (Scalar.ofBits (F := Ideal) .f32 0x3B800000#32))

/-- The last linear layer, a series to a row. -/
def head (w : FVec Ideal S64x64 .f32) (bias : FVec Ideal S64x1 .f32) (m : FVec Ideal S64x16 .f32) : FVec Ideal S16x64 .f32 :=
  transpose S16x64 [1, 0] (addf (matmul dot_S64x64_S64x16_S64x16_1_0_0_1_n_n none w m (constant S64x16 .f32 0x00000000#32))
    (broadcastTo S64x16 bias broadcasts_S64x1_S64x16)) transposes_S64x16_p1_0_S16x64

/-- The block the body writes is the composition of the stages. -/
theorem block_eq (x : FVec Ideal S576x256 .f32) (wp : FVec Ideal S64x1280 .f32) :
    out0_2 (F := Ideal) x wp = head (k0_pay7 wp) (k0_pay12 wp) (meanOf (aggregate (scale (lin2 (k0_pay6 wp)
      (aggregate (scale (lin1 (k0_pay5 wp) (pairs2 (conv2 (k0_pay4 wp) (k0_pay9 wp) (pairs1
        (conv1 (k0_pay3 wp) (k0_pay8 wp) (lanes x))))))) (k0_pay10 wp)))) (k0_pay11 wp))) := by
  have hz : (![0, 0] : Fin 2 → Nat) = fun _ => 0 := funext fun a => by fin_cases a <;> rfl
  have e0 : View.ld (Val := Elt Ideal) (e' := .f32) x r0_1 = x := View.ld_unit_zero (S := S576x256) (Val := Elt Ideal) (e := .f32) hz _ x
  have e1 : View.ld (Val := Elt Ideal) (e' := .f32) wp r0_0 = wp := View.ld_unit_zero (S := S64x1280) (Val := Elt Ideal) (e := .f32) hz _ wp
  unfold_out out0_2
  rw [e0, e1]
  refine (View.canon_unit_zero hz _ _).trans ?_
  rfl

end Cert.KernelIdeal.Stages

end
-- ==== Proof.Block.lean ====
/- What each stage of the kernel's body holds at a row and a lane, in terms of the mathematics, and so what one block holds. -/
module

public import proofs.«01_k».proof.Proof.Stages

@[expose] public section

set_option maxRecDepth 16384

noncomputable section

namespace Cert.KernelIdeal.Block

open Cert.KernelIdeal Cert.KernelIdeal.Gen Cert.KernelIdeal.Stages Cert.Spec Idealize.ShloMosaic

/-- The rows of series `n` of a block. -/
def piece (x : FVec Ideal S576x256 .f32) (n : Fin 16) : FVec Ideal S36x256 .f32 :=
  fun i => x (ix2 ⟨36 * n.val + (i 0).val, by have h : (i 0).val < 36 := (i 0).isLt; omega⟩ ⟨(i 1).val, (i 1).isLt⟩)

/-- A slice of thirty-six rows starting at row `36 * n` is the rows of series `n`. -/
theorem slice_eq_piece (x : FVec Ideal S576x256 .f32) (o : ℕ) (h : S576x256.Slices ![o, 0] S36x256) (n : Fin 16) (ho : o = 36 * n.val) :
    extractStridedSlice S36x256 ![o, 0] (k0_pay16 x) h = piece x n := by
  subst ho
  funext i
  have e : k0_pay16 x = x := shapeCast_self x _
  rw [e]
  refine extractStridedSlice_apply _ x h i _ fun a => ?_
  match a with
  | ⟨0, _⟩ => rfl
  | ⟨1, _⟩ => exact (Nat.zero_add _).symm

/-- Row `j` of lane `l` is row `j` of series `l / 256` of the block at position `l % 256`. -/
theorem lanes_apply (x : FVec Ideal S576x256 .f32) (j : Fin 36) (l : Fin 4096) :
    lanes x (ix2 j l) = x (ix2 ⟨36 * (l.val / 256) + j.val, by omega⟩ ⟨l.val % 256, by omega⟩) := by
  have S := slice_eq_piece x
  have e : lanes x = concatenate S36x4096 1 (List.ofFn fun n : Fin 16 => (⟨S36x256, piece x n⟩ : (s : Shape) × (s.Idx → EReal)))
      concatenates_S36x256_S36x256_S36x256_S36x256_S36x256_S36x256_S36x256_S36x256_S36x256_S36x256_S36x256_S36x256_S36x256_S36x256_S36x256_S36x256_S36x4096_d1 := by
    unfold lanes k0_pay17 k0_pay18 k0_pay19 k0_pay20 k0_pay21 k0_pay22 k0_pay23 k0_pay24 k0_pay25 k0_pay26 k0_pay27 k0_pay28
    rw [S 0 _ 0 rfl, S 36 _ 1 rfl, S 72 _ 2 rfl, S 108 _ 3 rfl, S 144 _ 4 rfl, S 180 _ 5 rfl, S 216 _ 6 rfl, S 252 _ 7 rfl,
      S 288 _ 8 rfl, S 324 _ 9 rfl, S 360 _ 10 rfl, S 396 _ 11 rfl, S 432 _ 12 rfl, S 468 _ 13 rfl, S 504 _ 14 rfl, S 540 _ 15 rfl]
    rfl
  rw [e]
  refine (concatenate_ofFn_apply (t := S36x4096) (s₁ := S36x256) 1 (piece x) _ rfl 256 rfl (ix2 j l) ⟨l.val / 256, by omega⟩ rfl
    (ix2 j ⟨l.val % 256, by omega⟩) rfl ?_).trans rfl
  intro b hb
  match b with
  | ⟨0, _⟩ => rfl
  | ⟨1, _⟩ => exact absurd rfl hb

theorem select_zero (a b : EReal) : Scalar.select 0#1 a b = b := rfl

theorem congr3 (f : ℕ → ℕ → ℕ → EReal) {a a' b b' c c' : ℕ} (ha : a = a') (hb : b = b') (hc : c = c') : f a b c = f a' b' c' := by
  rw [ha, hb, hc]

/-- The padded series inside and outside the series. -/
theorem pad2_in (L : ℕ) (y : ℕ → ℕ → ℕ → EReal) (b c m : ℕ) (h : 2 ≤ m ∧ m < L + 2) : pad2 L y b c m = y b c (m - 2) := if_pos h

theorem pad2_out (L : ℕ) (y : ℕ → ℕ → ℕ → EReal) (b c m : ℕ) (h : ¬(2 ≤ m ∧ m < L + 2)) : pad2 L y b c m = 0 := if_neg h

theorem pad4_in (x : ℕ → ℕ → ℕ → EReal) (b c m : ℕ) (h : ¬m < 4) : pad4 x b c m = x b c (m - 4) := if_neg h

theorem pad4_out (x : ℕ → ℕ → ℕ → EReal) (b c m : ℕ) (h : m < 4) : pad4 x b c m = 0 := if_pos h

/-- The 36 rows at the position before, zero at the first. -/
theorem behind36_apply (X : ℕ → ℕ → ℕ → EReal) (hX : ∀ b c m, 1024 ≤ m → X b c m = 0) (base : ℕ) (a : FVec Ideal S36x4096 .f32)
    (ha : ∀ (j : Fin 36) (l : Fin 4096), a (ix2 j l) = X (base + l.val / 256) (j.val / 4) (4 * (l.val % 256) + j.val % 4))
    (j : Fin 36) (l : Fin 4096) :
    select (broadcastTo S36x4096 (shapeCast S1x4096 k0_pay14 shapeCasts_S1x4096_S1x4096) broadcasts_S1x4096_S36x4096)
        (broadcast S36x4096 (Scalar.ofBits (F := Ideal) .f32 0x00000000#32))
        (concatenate S36x4096 1 [⟨S36x1, broadcast S36x1 (Scalar.ofBits (F := Ideal) .f32 0x00000000#32)⟩,
          ⟨S36x4095, extractStridedSlice S36x4095 ![0, 0] a slices_S36x4096_o0_0_S36x4095⟩] concatenates_S36x1_S36x4095_S36x4096_d1) (ix2 j l)
      = pad4 X (base + l.val / 256) (j.val / 4) (4 * (l.val % 256) + j.val % 4) := by
  pointwise []
  rw [first_apply]
  by_cases h0 : l.val % 256 = 0
  · rw [if_pos h0, pad4_out _ _ _ _ (by omega)]; rfl
  · have hl : ¬l.val < 1 := by omega
    rw [if_neg h0, select_zero, dif_neg hl, pad4_in _ _ _ _ (by omega)]
    refine (ha _ _).trans (congr3 X ?_ ?_ ?_) <;> simp only <;> omega

/-- The 36 rows at the position after, zero at the last. -/
theorem ahead36_apply (X : ℕ → ℕ → ℕ → EReal) (hX : ∀ b c m, 1024 ≤ m → X b c m = 0) (base : ℕ) (a : FVec Ideal S36x4096 .f32)
    (ha : ∀ (j : Fin 36) (l : Fin 4096), a (ix2 j l) = X (base + l.val / 256) (j.val / 4) (4 * (l.val % 256) + j.val % 4))
    (j : Fin 36) (l : Fin 4096) :
    select (broadcastTo S36x4096 (shapeCast S1x4096 k0_pay15 shapeCasts_S1x4096_S1x4096) broadcasts_S1x4096_S36x4096)
        (broadcast S36x4096 (Scalar.ofBits (F := Ideal) .f32 0x00000000#32))
        (concatenate S36x4096 1 [⟨S36x4095, extractStridedSlice S36x4095 ![0, 1] a slices_S36x4096_o0_1_S36x4095⟩,
          ⟨S36x1, broadcast S36x1 (Scalar.ofBits (F := Ideal) .f32 0x00000000#32)⟩] concatenates_S36x4095_S36x1_S36x4096_d1) (ix2 j l)
      = pad4 X (base + l.val / 256) (j.val / 4) (4 * (l.val % 256) + (8 + j.val % 4)) := by
  pointwise []
  rw [last_apply]
  by_cases h0 : l.val % 256 = 255
  · rw [if_pos h0, pad4_in _ _ _ _ (by omega), hX _ _ _ (by omega)]; rfl
  · have hl : l.val < 4095 := by omega
    rw [if_neg h0, select_zero, dif_pos hl, pad4_in _ _ _ _ (by omega)]
    refine (ha _ _).trans (congr3 X ?_ ?_ ?_) <;> simp only <;> omega

/-- Three blocks of 36 rows, one under the other. -/
theorem three36_apply (u v w : FVec Ideal S36x4096 .f32) (j : Fin 108) (l : Fin 4096) :
    concatenate S108x4096 0 [⟨S36x4096, u⟩, ⟨S36x4096, v⟩, ⟨S36x4096, w⟩] concatenates_S36x4096_S36x4096_S36x4096_S108x4096_d0 (ix2 j l)
      = if h1 : j.val < 36 then u (ix2 ⟨j.val, h1⟩ l) else if h2 : j.val - 36 < 36 then v (ix2 ⟨j.val - 36, h2⟩ l)
        else w (ix2 ⟨j.val - 36 - 36, by omega⟩ l) := by
  pointwise []

/-- The stacked rows: block `q` of thirty-six rows holds the series four places further per block. -/
theorem stack1_holds (X : ℕ → ℕ → ℕ → EReal) (hX : ∀ b c m, 1024 ≤ m → X b c m = 0) (base : ℕ) (a : FVec Ideal S36x4096 .f32)
    (ha : ∀ (j : Fin 36) (l : Fin 4096), a (ix2 j l) = X (base + l.val / 256) (j.val / 4) (4 * (l.val % 256) + j.val % 4))
    (j : Fin 108) (l : Fin 4096) :
    stack1 a (ix2 j l)
      = pad4 X (base + l.val / 256) (j.val % 36 / 4) (4 * (l.val % 256) + (4 * (j.val / 36) + j.val % 4)) := by
  refine (three36_apply _ _ _ j l).trans ?_
  by_cases h1 : j.val < 36
  · rw [dif_pos h1, behind36_apply X hX base a ha]
    refine congr3 (pad4 X) ?_ ?_ ?_ <;> simp only <;> omega
  · rw [dif_neg h1]
    by_cases h2 : j.val - 36 < 36
    · rw [dif_pos h2, ha, pad4_in _ _ _ _ (by omega)]
      refine congr3 X ?_ ?_ ?_ <;> simp only <;> omega
    · rw [dif_neg h2, ahead36_apply X hX base a ha]
      refine congr3 (pad4 X) ?_ ?_ ?_ <;> simp only <;> omega

/-- The 32 rows at the position before, zero at the first. -/
theorem behind32_apply (Y : ℕ → ℕ → ℕ → EReal) (base : ℕ) (a : FVec Ideal S32x4096 .f32)
    (ha : ∀ (j : Fin 32) (l : Fin 4096), a (ix2 j l) = Y (base + l.val / 256) (j.val % 16) (2 * (l.val % 256) + j.val / 16))
    (j : Fin 32) (l : Fin 4096) :
    select (broadcastTo S32x4096 (shapeCast S1x4096 k0_pay14 shapeCasts_S1x4096_S1x4096) broadcasts_S1x4096_S32x4096)
        (broadcast S32x4096 (Scalar.ofBits (F := Ideal) .f32 0x00000000#32))
        (concatenate S32x4096 1 [⟨S32x1, broadcast S32x1 (Scalar.ofBits (F := Ideal) .f32 0x00000000#32)⟩,
          ⟨S32x4095, extractStridedSlice S32x4095 ![0, 0] a slices_S32x4096_o0_0_S32x4095⟩] concatenates_S32x1_S32x4095_S32x4096_d1) (ix2 j l)
      = pad2 512 Y (base + l.val / 256) (j.val % 16) (2 * (l.val % 256) + j.val / 16) := by
  pointwise []
  rw [first_apply]
  by_cases h0 : l.val % 256 = 0
  · rw [if_pos h0, pad2_out _ _ _ _ _ (by omega)]; rfl
  · have hl : ¬l.val < 1 := by omega
    rw [if_neg h0, select_zero, dif_neg hl, pad2_in _ _ _ _ _ (by omega)]
    refine (ha _ _).trans (congr3 Y ?_ ?_ ?_) <;> simp only <;> omega

/-- The 32 rows at the position after, zero at the last. -/
theorem ahead32_apply (Y : ℕ → ℕ → ℕ → EReal) (base : ℕ) (a : FVec Ideal S32x4096 .f32)
    (ha : ∀ (j : Fin 32) (l : Fin 4096), a (ix2 j l) = Y (base + l.val / 256) (j.val % 16) (2 * (l.val % 256) + j.val / 16))
    (j : Fin 32) (l : Fin 4096) :
    select (broadcastTo S32x4096 (shapeCast S1x4096 k0_pay15 shapeCasts_S1x4096_S1x4096) broadcasts_S1x4096_S32x4096)
        (broadcast S32x4096 (Scalar.ofBits (F := Ideal) .f32 0x00000000#32))
        (concatenate S32x4096 1 [⟨S32x4095, extractStridedSlice S32x4095 ![0, 1] a slices_S32x4096_o0_1_S32x4095⟩,
          ⟨S32x1, broadcast S32x1 (Scalar.ofBits (F := Ideal) .f32 0x00000000#32)⟩] concatenates_S32x4095_S32x1_S32x4096_d1) (ix2 j l)
      = pad2 512 Y (base + l.val / 256) (j.val % 16) (2 * (l.val % 256) + (4 + j.val / 16)) := by
  pointwise []
  rw [last_apply]
  by_cases h0 : l.val % 256 = 255
  · rw [if_pos h0, pad2_out _ _ _ _ _ (by omega)]; rfl
  · have hl : l.val < 4095 := by omega
    rw [if_neg h0, select_zero, dif_pos hl, pad2_in _ _ _ _ _ (by omega)]
    refine (ha _ _).trans (congr3 Y ?_ ?_ ?_) <;> simp only <;> omega

/-- Three blocks of 32 rows, one under the other. -/
theorem three32_apply (u v w : FVec Ideal S32x4096 .f32) (j : Fin 96) (l : Fin 4096) :
    concatenate S96x4096 0 [⟨S32x4096, u⟩, ⟨S32x4096, v⟩, ⟨S32x4096, w⟩] concatenates_S32x4096_S32x4096_S32x4096_S96x4096_d0 (ix2 j l)
      = if h1 : j.val < 32 then u (ix2 ⟨j.val, h1⟩ l) else if h2 : j.val - 32 < 32 then v (ix2 ⟨j.val - 32, h2⟩ l)
        else w (ix2 ⟨j.val - 32 - 32, by omega⟩ l) := by
  pointwise []

/-- The stacked rows of the second convolution: two places further per block of thirty-two rows. -/
theorem stack2_holds (Y : ℕ → ℕ → ℕ → EReal) (base : ℕ) (a : FVec Ideal S32x4096 .f32)
    (ha : ∀ (j : Fin 32) (l : Fin 4096), a (ix2 j l) = Y (base + l.val / 256) (j.val % 16) (2 * (l.val % 256) + j.val / 16))
    (j : Fin 96) (l : Fin 4096) :
    stack2 a (ix2 j l) = pad2 512 Y (base + l.val / 256) (j.val % 16) (2 * (l.val % 256) + j.val / 16) := by
  refine (three32_apply _ _ _ j l).trans ?_
  by_cases h1 : j.val < 32
  · rw [dif_pos h1, behind32_apply Y base a ha]
  · rw [dif_neg h1]
    by_cases h2 : j.val - 32 < 32
    · rw [dif_pos h2, ha, pad2_in _ _ _ _ _ (by omega)]
      refine congr3 Y ?_ ?_ ?_ <;> simp only <;> omega
    · rw [dif_neg h2, ahead32_apply Y base a ha]
      refine congr3 (pad2 512 Y) ?_ ?_ ?_ <;> simp only <;> omega

/-- The position before, zero at the first. -/
theorem before_apply (H : ℕ → ℕ → ℕ → EReal) (base : ℕ) (g : FVec Ideal S64x4096 .f32)
    (hg : ∀ (r : Fin 64) (l : Fin 4096), g (ix2 r l) = H (base + l.val / 256) r.val (l.val % 256)) (r : Fin 64) (l : Fin 4096) :
    before g (ix2 r l) = if l.val % 256 = 0 then 0 else H (base + l.val / 256) r.val (l.val % 256 - 1) := by
  pointwise [before, k0_pay32]
  rw [first_apply]
  by_cases h0 : l.val % 256 = 0
  · rw [if_pos h0, if_pos h0]; rfl
  · rw [if_neg h0, if_neg h0, dif_neg (by omega), hg]
    show H _ _ _ = _
    congr 1 <;> simp only <;> omega

/-- The position after, zero at the last. -/
theorem after_apply (H : ℕ → ℕ → ℕ → EReal) (base : ℕ) (g : FVec Ideal S64x4096 .f32)
    (hg : ∀ (r : Fin 64) (l : Fin 4096), g (ix2 r l) = H (base + l.val / 256) r.val (l.val % 256)) (r : Fin 64) (l : Fin 4096) :
    after g (ix2 r l) = if l.val % 256 = 255 then 0 else H (base + l.val / 256) r.val (l.val % 256 + 1) := by
  pointwise [after, k0_pay32]
  rw [last_apply]
  by_cases h0 : l.val % 256 = 255
  · rw [if_pos h0, if_pos h0]; rfl
  · rw [if_neg h0, if_neg h0, dif_pos (by omega), hg]
    show H _ _ _ = _
    congr 1 <;> simp only <;> omega

/-- The banded sum of the first convolution over `Fin 108`, its window read from any equal terms. -/
theorem band1' (w y : ℕ → ℕ → EReal) (p : ℕ) (hp : p < 4) {z : ℕ → ℕ → EReal} (hz : ∀ k c, y c (p + 2 + k) = z k c) :
    ∑ j : Fin 108, (if p + 2 ≤ 4 * (j.val / 36) + j.val % 4 ∧ 4 * (j.val / 36) + j.val % 4 < p + 2 + 5
        then w (j.val % 36 / 4) (4 * (j.val / 36) + j.val % 4 - (p + 2)) else 0) * y (j.val % 36 / 4) (4 * (j.val / 36) + j.val % 4)
      = ∑ k ∈ Finset.range 5, ∑ c ∈ Finset.range 9, w c k * z k c := by
  rw [← Finset.sum_range (n := 108) fun j : ℕ => (if p + 2 ≤ 4 * (j / 36) + j % 4 ∧ 4 * (j / 36) + j % 4 < p + 2 + 5
        then w (j % 36 / 4) (4 * (j / 36) + j % 4 - (p + 2)) else 0) * y (j % 36 / 4) (4 * (j / 36) + j % 4), band1 w y p hp]
  simp only [hz]

/-- The banded sum of the second convolution over `Fin 96`, its window read from any equal terms. -/
theorem band2' (w y : ℕ → ℕ → EReal) (p : ℕ) (hp : p < 2) {z : ℕ → ℕ → EReal} (hz : ∀ k c, y c (p + k) = z k c) :
    ∑ j : Fin 96, (if p ≤ j.val / 16 ∧ j.val / 16 < p + 5 then w (j.val % 16) (j.val / 16 - p) else 0) * y (j.val % 16) (j.val / 16)
      = ∑ k ∈ Finset.range 5, ∑ c ∈ Finset.range 16, w c k * z k c := by
  rw [← Finset.sum_range (n := 96) fun j : ℕ => (if p ≤ j / 16 ∧ j / 16 < p + 5 then w (j % 16) (j / 16 - p) else 0) * y (j % 16) (j / 16), band2 w y p hp]
  simp only [hz]

theorem conv1_apply (w : FVec Ideal S64x108 .f32) (bias : FVec Ideal S64x1 .f32) (a : FVec Ideal S36x4096 .f32) (r : Fin 64) (l : Fin 4096) :
    conv1 w bias a (ix2 r l) = max ((∑ j : Fin 108, w (ix2 r j) * stack1 a (ix2 j l)) + bias (ix2 r 0)) 0 := by
  pointwise [conv1]

theorem conv2_apply (w : FVec Ideal S64x96 .f32) (bias : FVec Ideal S64x1 .f32) (a : FVec Ideal S32x4096 .f32) (r : Fin 64) (l : Fin 4096) :
    conv2 w bias a (ix2 r l) = max ((∑ j : Fin 96, w (ix2 r j) * stack2 a (ix2 j l)) + bias (ix2 r 0)) 0 := by
  pointwise [conv2]

theorem pairs1_apply (h : FVec Ideal S64x4096 .f32) (r : Fin 32) (l : Fin 4096) :
    pairs1 h (ix2 r l) = max (h (ix2 ⟨32 * (r.val / 16) + r.val % 16, by omega⟩ l)) (h (ix2 ⟨32 * (r.val / 16) + 16 + r.val % 16, by omega⟩ l)) := by
  pointwise [pairs1]
  by_cases hr : r.val < 16
  · rw [dif_pos hr]
    congr 3 <;> apply Fin.ext <;> simp only <;> omega
  · rw [dif_neg hr]
    congr 3 <;> apply Fin.ext <;> simp only <;> omega

theorem pairs2_apply (h : FVec Ideal S64x4096 .f32) (r : Fin 32) (l : Fin 4096) :
    pairs2 h (ix2 r l) = max (h (ix2 ⟨r.val, by omega⟩ l)) (h (ix2 ⟨32 + r.val, by omega⟩ l)) := by
  pointwise [pairs2]

theorem scale_apply (g : FVec Ideal S64x4096 .f32) (r : Fin 64) (l : Fin 4096) :
    scale g (ix2 r l) = g (ix2 r l) * dinv (l.val % 256) := by
  rw [← deg_apply]
  pointwise [scale]

theorem aggregate_apply (g : FVec Ideal S64x4096 .f32) (bias : FVec Ideal S64x1 .f32) (r : Fin 64) (l : Fin 4096) :
    aggregate g bias (ix2 r l)
      = max ((g (ix2 r l) + before g (ix2 r l) + after g (ix2 r l)) * dinv (l.val % 256) + bias (ix2 r 0)) 0 := by
  rw [← deg_apply]
  pointwise [aggregate, scale]

theorem lin1_apply (w : FVec Ideal S64x32 .f32) (n : FVec Ideal S32x4096 .f32) (r : Fin 64) (l : Fin 4096) :
    lin1 w n (ix2 r l) = ∑ f : Fin 32, w (ix2 r f) * n (ix2 f l) := by
  pointwise [lin1]

theorem lin2_apply (w : FVec Ideal S64x64 .f32) (n : FVec Ideal S64x4096 .f32) (r : Fin 64) (l : Fin 4096) :
    lin2 w n (ix2 r l) = ∑ f : Fin 64, w (ix2 r f) * n (ix2 f l) := by
  pointwise [lin2]

theorem meanOf_apply (n : FVec Ideal S64x4096 .f32) (k : Fin 64) (s : Fin 16) :
    meanOf n (ix2 k s) = (∑ t : Fin 256, n (ix2 k ⟨256 * s.val + t.val, by omega⟩)) * ((1 / 256 : ℝ) : EReal) := by
  have h : Ideal.ofBits FTy.f32 0x3B800000#32 = ((1 / 256 : ℝ) : EReal) := by
    simp [Ideal.ofBits, Ideal.ieee, -EReal.coe_mul]; norm_num
  rw [← h]
  pointwise [meanOf]
  congr 1
  refine Finset.sum_congr rfl fun t _ => ?_
  congr 2
  apply Fin.ext
  simp only
  omega

theorem head_apply (w : FVec Ideal S64x64 .f32) (bias : FVec Ideal S64x1 .f32) (m : FVec Ideal S64x16 .f32) (s : Fin 16) (o : Fin 64) :
    head w bias m (ix2 s o) = (∑ k : Fin 64, w (ix2 o k) * m (ix2 k s)) + bias (ix2 o 0) := by
  pointwise [head]

/-- The array of packed weights holds the parameters: the two convolutions as bands, everything else as it is. -/
structure Packed (p : Par) (w : FVec Ideal S64x1280 .f32) : Prop where
  w1 : ∀ (r : Fin 64) (j : Fin 108), w (ix2 r ⟨j.val, by omega⟩)
    = if r.val / 16 + 2 ≤ 4 * (j.val / 36) + j.val % 4 ∧ 4 * (j.val / 36) + j.val % 4 < r.val / 16 + 2 + 5
      then p.w1 (r.val % 16) (j.val % 36 / 4) (4 * (j.val / 36) + j.val % 4 - (r.val / 16 + 2)) else 0
  w2 : ∀ (r : Fin 64) (j : Fin 96), w (ix2 r ⟨128 + j.val, by omega⟩)
    = if r.val / 32 ≤ j.val / 16 ∧ j.val / 16 < r.val / 32 + 5
      then p.w2 (r.val % 32) (j.val % 16) (j.val / 16 - r.val / 32) else 0
  g1 : ∀ (r : Fin 64) (f : Fin 32), w (ix2 r ⟨256 + f.val, by omega⟩) = p.g1 f.val r.val
  g2 : ∀ (r : Fin 64) (f : Fin 64), w (ix2 r ⟨384 + f.val, by omega⟩) = p.g2 f.val r.val
  fw : ∀ (r : Fin 64) (f : Fin 64), w (ix2 r ⟨512 + f.val, by omega⟩) = p.fw f.val r.val
  b1 : ∀ r : Fin 64, w (ix2 r ⟨640, by omega⟩) = p.b1 (r.val % 16)
  b2 : ∀ r : Fin 64, w (ix2 r ⟨768, by omega⟩) = p.b2 (r.val % 32)
  c1 : ∀ r : Fin 64, w (ix2 r ⟨896, by omega⟩) = p.c1 r.val
  c2 : ∀ r : Fin 64, w (ix2 r ⟨1024, by omega⟩) = p.c2 r.val
  fb : ∀ r : Fin 64, w (ix2 r ⟨1152, by omega⟩) = p.fb r.val

section
variable (p : Par) (base : ℕ) (wp : FVec Ideal S64x1280 .f32) (hw : Packed p wp)
include hw

/-- The first convolution's rows: phase `r / 16` of channel `r % 16`. -/
theorem conv1_holds (a : FVec Ideal S36x4096 .f32)
    (ha : ∀ (j : Fin 108) (l : Fin 4096), stack1 a (ix2 j l)
      = pad4 p.x (base + l.val / 256) (j.val % 36 / 4) (4 * (l.val % 256) + (4 * (j.val / 36) + j.val % 4)))
    (r : Fin 64) (l : Fin 4096) :
    conv1 (k0_pay3 wp) (k0_pay8 wp) a (ix2 r l) = act1 p (base + l.val / 256) (r.val % 16) (4 * (l.val % 256) + r.val / 16) := by
  have e1 : ∀ j : Fin 108, k0_pay3 wp (ix2 r j) = wp (ix2 r ⟨j.val, by omega⟩) := fun j => by pointwise [k0_pay3, k0_pay2]
  have e2 : k0_pay8 wp (ix2 r 0) = wp (ix2 r ⟨640, by omega⟩) := by pointwise [k0_pay8, k0_pay2]
  have hp : r.val / 16 < 4 := by omega
  rw [conv1_apply, e2, hw.b1]
  unfold act1 conv
  congr 2
  refine Eq.trans ?_ (band1' (p.w1 (r.val % 16)) (fun c e => pad4 p.x (base + l.val / 256) c (4 * (l.val % 256) + e)) (r.val / 16) hp ?_)
  · refine Finset.sum_congr rfl fun j _ => ?_
    rw [e1, hw.w1, ha]
  · intro k c
    refine congr3 (pad4 p.x) rfl rfl ?_
    omega

omit hw in
/-- Pooled over pairs of positions: phase `r / 16` of channel `r % 16`. -/
theorem pairs1_holds (h : FVec Ideal S64x4096 .f32)
    (hh : ∀ (r : Fin 64) (l : Fin 4096), h (ix2 r l) = act1 p (base + l.val / 256) (r.val % 16) (4 * (l.val % 256) + r.val / 16))
    (r : Fin 32) (l : Fin 4096) :
    pairs1 h (ix2 r l) = pool1 p (base + l.val / 256) (r.val % 16) (2 * (l.val % 256) + r.val / 16) := by
  rw [pairs1_apply, hh, hh]
  unfold pool1
  congr 1 <;> refine congr3 (act1 p) rfl ?_ ?_ <;> simp only <;> omega

/-- The second convolution's rows: phase `r / 32` of channel `r % 32`. -/
theorem conv2_holds (a : FVec Ideal S32x4096 .f32)
    (ha : ∀ (j : Fin 96) (l : Fin 4096), stack2 a (ix2 j l)
      = pad2 512 (pool1 p) (base + l.val / 256) (j.val % 16) (2 * (l.val % 256) + j.val / 16))
    (r : Fin 64) (l : Fin 4096) :
    conv2 (k0_pay4 wp) (k0_pay9 wp) a (ix2 r l) = act2 p (base + l.val / 256) (r.val % 32) (2 * (l.val % 256) + r.val / 32) := by
  have e1 : ∀ j : Fin 96, k0_pay4 wp (ix2 r j) = wp (ix2 r ⟨128 + j.val, by omega⟩) := fun j => by pointwise [k0_pay4, k0_pay2]
  have e2 : k0_pay9 wp (ix2 r 0) = wp (ix2 r ⟨768, by omega⟩) := by pointwise [k0_pay9, k0_pay2]
  have hp : r.val / 32 < 2 := by omega
  rw [conv2_apply, e2, hw.b2]
  unfold act2 conv
  congr 2
  refine Eq.trans ?_ (band2' (p.w2 (r.val % 32)) (fun c e => pad2 512 (pool1 p) (base + l.val / 256) c (2 * (l.val % 256) + e)) (r.val / 32) hp ?_)
  · refine Finset.sum_congr rfl fun j _ => ?_
    rw [e1, hw.w2, ha]
  · intro k c
    refine congr3 (pad2 512 (pool1 p)) rfl rfl ?_
    omega

omit hw in
/-- Pooled over pairs of positions: the node features. -/
theorem pairs2_holds (h : FVec Ideal S64x4096 .f32)
    (hh : ∀ (r : Fin 64) (l : Fin 4096), h (ix2 r l) = act2 p (base + l.val / 256) (r.val % 32) (2 * (l.val % 256) + r.val / 32))
    (r : Fin 32) (l : Fin 4096) :
    pairs2 h (ix2 r l) = pool2 p (base + l.val / 256) r.val (l.val % 256) := by
  rw [pairs2_apply, hh, hh]
  unfold pool2
  congr 1 <;> refine congr3 (act2 p) rfl ?_ ?_ <;> simp only <;> omega

omit hw in
/-- One graph convolution: scaled, summed over the neighbours, scaled again. -/
theorem gcn_holds (K : ℕ) (N : ℕ → ℕ → ℕ → EReal) (W : ℕ → ℕ → EReal) (C : ℕ → EReal) (g : FVec Ideal S64x4096 .f32) (bias : FVec Ideal S64x1 .f32)
    (hg : ∀ (r : Fin 64) (l : Fin 4096), g (ix2 r l) = lin K N W (base + l.val / 256) r.val (l.val % 256))
    (hb : ∀ r : Fin 64, bias (ix2 r 0) = C r.val) (r : Fin 64) (l : Fin 4096) :
    aggregate (scale g) bias (ix2 r l) = gcn K N W C (base + l.val / 256) r.val (l.val % 256) := by
  have hs : ∀ (r : Fin 64) (l : Fin 4096), scale g (ix2 r l)
      = (fun b o t => lin K N W b o t * dinv t) (base + l.val / 256) r.val (l.val % 256) := fun r l => by rw [scale_apply, hg]
  rw [aggregate_apply, before_apply (fun b o t => lin K N W b o t * dinv t) base _ hs, after_apply (fun b o t => lin K N W b o t * dinv t) base _ hs, hs, hb]
  unfold gcn
  rw [← mix_of_lt _ _ (by omega)]

/-- The first graph convolution. -/
theorem node1_holds (n : FVec Ideal S32x4096 .f32)
    (hn : ∀ (r : Fin 32) (l : Fin 4096), n (ix2 r l) = pool2 p (base + l.val / 256) r.val (l.val % 256)) (r : Fin 64) (l : Fin 4096) :
    aggregate (scale (lin1 (k0_pay5 wp) n)) (k0_pay10 wp) (ix2 r l) = node1 p (base + l.val / 256) r.val (l.val % 256) := by
  refine gcn_holds base 32 (pool2 p) p.g1 p.c1 _ _ (fun r l => ?_) (fun r => ?_) r l
  · rw [lin1_apply]
    unfold lin
    rw [Finset.sum_range]
    refine Finset.sum_congr rfl fun f _ => ?_
    have e : k0_pay5 wp (ix2 r f) = wp (ix2 r ⟨256 + f.val, by omega⟩) := by pointwise [k0_pay5, k0_pay2]
    rw [e, hw.g1, hn, mul_comm]
  · have e : k0_pay10 wp (ix2 r 0) = wp (ix2 r ⟨896, by omega⟩) := by pointwise [k0_pay10, k0_pay2]
    rw [e, hw.c1]

/-- The second graph convolution. -/
theorem node2_holds (n : FVec Ideal S64x4096 .f32)
    (hn : ∀ (r : Fin 64) (l : Fin 4096), n (ix2 r l) = node1 p (base + l.val / 256) r.val (l.val % 256)) (r : Fin 64) (l : Fin 4096) :
    aggregate (scale (lin2 (k0_pay6 wp) n)) (k0_pay11 wp) (ix2 r l) = node2 p (base + l.val / 256) r.val (l.val % 256) := by
  refine gcn_holds base 64 (node1 p) p.g2 p.c2 _ _ (fun r l => ?_) (fun r => ?_) r l
  · rw [lin2_apply]
    unfold lin
    rw [Finset.sum_range]
    refine Finset.sum_congr rfl fun f _ => ?_
    have e : k0_pay6 wp (ix2 r f) = wp (ix2 r ⟨384 + f.val, by omega⟩) := by pointwise [k0_pay6, k0_pay2]
    rw [e, hw.g2, hn, mul_comm]
  · have e : k0_pay11 wp (ix2 r 0) = wp (ix2 r ⟨1024, by omega⟩) := by pointwise [k0_pay11, k0_pay2]
    rw [e, hw.c2]

omit hw in
/-- The mean over the positions of a series. -/
theorem mean_holds (n : FVec Ideal S64x4096 .f32)
    (hn : ∀ (r : Fin 64) (l : Fin 4096), n (ix2 r l) = node2 p (base + l.val / 256) r.val (l.val % 256)) (k : Fin 64) (s : Fin 16) :
    meanOf n (ix2 k s) = mean p (base + s.val) k.val := by
  rw [meanOf_apply]
  unfold mean
  rw [Finset.sum_range]
  congr 1
  refine Finset.sum_congr rfl fun t _ => ?_
  rw [hn]
  refine congr3 (node2 p) ?_ rfl ?_ <;> simp only <;> omega

/-- **One block.** Sixteen series starting at series `base`, and the packed weights: the block holds the network's values of these series. -/
theorem block_holds (x : FVec Ideal S576x256 .f32) (hX : ∀ b c m, 1024 ≤ m → p.x b c m = 0)
    (hx : ∀ (i : Fin 576) (u : Fin 256), x (ix2 i u) = p.x (base + i.val / 36) (i.val % 36 / 4) (4 * u.val + i.val % 4))
    (s : Fin 16) (o : Fin 64) :
    out0_2 (F := Ideal) x wp (ix2 s o) = out p (base + s.val) o.val := by
  have hl : ∀ (j : Fin 36) (l : Fin 4096), lanes x (ix2 j l) = p.x (base + l.val / 256) (j.val / 4) (4 * (l.val % 256) + j.val % 4) := by
    intro j l
    rw [lanes_apply, hx]
    refine congr3 p.x ?_ ?_ ?_ <;> simp only <;> omega
  have h2 := pairs1_holds p base _ (conv1_holds p base wp hw _ (stack1_holds p.x hX base _ hl))
  have h4 := pairs2_holds p base _ (conv2_holds p base wp hw _ (stack2_holds (pool1 p) base _ h2))
  have h6 := node2_holds p base wp hw _ (node1_holds p base wp hw _ h4)
  have h7 := mean_holds p base _ h6
  rw [block_eq, head_apply]
  have e : k0_pay12 wp (ix2 o 0) = wp (ix2 o ⟨1152, by omega⟩) := by pointwise [k0_pay12, k0_pay2]
  rw [e, hw.fb]
  unfold out
  rw [Finset.sum_range]
  congr 1
  refine Finset.sum_congr rfl fun k _ => ?_
  have e' : k0_pay7 wp (ix2 o k) = wp (ix2 o ⟨512 + k.val, by omega⟩) := by pointwise [k0_pay7, k0_pay2]
  rw [e', hw.fw, h7, mul_comm]

end

end Cert.KernelIdeal.Block

end
-- ==== Proof.Host.lean ====
/- The two arrays the region reads, in terms of the arguments. -/
module

public import proofs.«01_k».proof.Proof.Table
public import proofs.«01_k».proof.Proof.Flat
public import proofs.«01_k».proof.Proof.Block
public import proofs.«01_k».proof.Proof.Gen.KernelIdeal.Value

@[expose] public section

set_option maxRecDepth 16384

noncomputable section

namespace Cert.KernelIdeal.Host

open Cert.KernelIdeal Cert.KernelIdeal.Gen Cert.KernelIdeal.Flat Cert.KernelIdeal.Table Cert.KernelIdeal.Block Cert.Spec
open Idealize.ShloMosaic Idealize.ShloMosaic.TcCoe

/-- The series, phases apart: row `i` of series `i / 36` holds phase `i % 4` of channel `i % 36 / 4`. -/
def phases (x : FVec Ideal S2048x9x1024 .f32) : FVec Ideal S73728x256 .f32 :=
  shapeCast S73728x256 (transpose S2048x9x4x256 [0, 1, 3, 2] (shapeCast S2048x9x256x4 x shapeCasts_S2048x9x1024_S2048x9x256x4)
    transposes_S2048x9x256x4_S2048x9x4x256_0_1_3_2) shapeCasts_S2048x9x4x256_S73728x256

theorem phases_apply (x : FVec Ideal S2048x9x1024 .f32) (i : Fin 73728) (u : Fin 256) :
    phases x (ix2 i u) = x (ix3 ⟨i.val / 36, by omega⟩ ⟨i.val % 36 / 4, by omega⟩ ⟨4 * u.val + i.val % 4, by omega⟩) := by
  pointwise [phases]
  have h1 : i.val / 4 % 9 = i.val % 36 / 4 := by omega
  have h2 : u.val * 4 + i.val % 4 = 4 * u.val + i.val % 4 := by omega
  simp only [h1, h2]

/-- The index table as an array. -/
def table : IVec S64x1280 32 := fun i => lit0 (S64x1280.rowMajor i)

theorem table_apply (r : Fin 64) (c : Fin 1280) : (table (ix2 r c)).toNat = entry r.val c.val := by
  have e : (S64x1280.rowMajor (ix2 r c)).val = 1280 * r.val + c.val := by
    refine (rowMajor_val2 (ix2 r c) 1280 rfl).trans ?_
    show r.val * 1280 + c.val = _
    omega
  unfold entry table
  rw [← e]

variable (x1 : FVec Ideal S16x9x5 .f32) (x2 : FVec Ideal S16 .f32) (x3 : FVec Ideal S32x16x5 .f32)
  (x4 : FVec Ideal S32 .f32) (x5 : FVec Ideal S32x64 .f32) (x6 : FVec Ideal S64 .f32) (x7 : FVec Ideal S64x64 .f32) (x8 : FVec Ideal S64 .f32)
  (x9 : FVec Ideal S64x64 .f32) (x10 : FVec Ideal S64 .f32)

/-- The parameters' flat array. -/
def params : FVec Ideal S13761 .f32 :=
  flat (shapeCast S720 x1 shapeCasts_S16x9x5_S720) (shapeCast S2560 x3 shapeCasts_S32x16x5_S2560) (shapeCast S2048 x5 shapeCasts_S32x64_S2048)
    (shapeCast S4096 x7 shapeCasts_S64x64_S4096) (shapeCast S4096 x9 shapeCasts_S64x64_S4096) x2 x4 x6 x8 x10
    (broadcastInDim S1 ![] bcast_S_S1 (constant S_ .f32 0x00000000#32))

/-- The packed parameters. -/
def packed : FVec Ideal S64x1280 .f32 :=
  Host.gather gather_S13761_S64x1280x1_S64x1280_n_0_n_n_0_2_1 (params x1 x2 x3 x4 x5 x6 x7 x8 x9 x10) (look table)

theorem packed_at (r : Fin 64) (c : ℕ) (hc : c < 1280) (n : ℕ) (hn : n < 13761) (h : entry r.val c = n) :
    packed x1 x2 x3 x4 x5 x6 x7 x8 x9 x10 (ix2 r ⟨c, hc⟩) = params x1 x2 x3 x4 x5 x6 x7 x8 x9 x10 (ix1 ⟨n, hn⟩) :=
  gather_at _ _ r ⟨c, hc⟩ n hn ((table_apply r ⟨c, hc⟩).trans h)

theorem params_zero : params x1 x2 x3 x4 x5 x6 x7 x8 x9 x10 (ix1 ⟨13760, by omega⟩) = 0 := by
  unfold params
  rw [flat_zero]
  pointwise []

theorem cast_w1 (o : Fin 16) (c : Fin 9) (k : Fin 5) :
    shapeCast S720 x1 shapeCasts_S16x9x5_S720 (ix1 ⟨(o.val * 9 + c.val) * 5 + k.val, by omega⟩) = x1 (ix3 o c k) := by
  pointwise []

theorem cast_w2 (o : Fin 32) (c : Fin 16) (k : Fin 5) :
    shapeCast S2560 x3 shapeCasts_S32x16x5_S2560 (ix1 ⟨(o.val * 16 + c.val) * 5 + k.val, by omega⟩) = x3 (ix3 o c k) := by
  pointwise []

theorem cast_g1 (f : Fin 32) (o : Fin 64) :
    shapeCast S2048 x5 shapeCasts_S32x64_S2048 (ix1 ⟨f.val * 64 + o.val, by omega⟩) = x5 (ix2 f o) := by
  pointwise []

theorem cast_g2 (x : FVec Ideal S64x64 .f32) (f o : Fin 64) :
    shapeCast S4096 x shapeCasts_S64x64_S4096 (ix1 ⟨f.val * 64 + o.val, by omega⟩) = x (ix2 f o) := by
  pointwise []

/-- The packed array holds every parameter where the body looks for it. -/
theorem packed_holds (x0 : FVec Ideal S2048x9x1024 .f32) : Packed (par x0 x1 x2 x3 x4 x5 x6 x7 x8 x9 x10) (packed x1 x2 x3 x4 x5 x6 x7 x8 x9 x10) where
  w1 r j := by
    have e := w1_entry r j
    split_ifs at e ⊢ with h
    · have hr := r.isLt
      have hj := j.isLt
      refine (packed_at _ _ _ _ _ _ _ _ _ _ r _ _ _ (by omega) e).trans ?_
      refine (flat_w1 _ _ _ _ _ _ _ _ _ _ _ ⟨_, by omega⟩).trans ?_
      refine (cast_w1 x1 ⟨r.val % 16, by omega⟩ ⟨j.val % 36 / 4, by omega⟩ ⟨4 * (j.val / 36) + j.val % 4 - (r.val / 16 + 2), by omega⟩).trans ?_
      exact (rd3_of x1 _ _ _).symm
    · exact (packed_at _ _ _ _ _ _ _ _ _ _ r _ _ _ (by omega) e).trans (params_zero ..)
  w2 r j := by
    have e := w2_entry r j
    split_ifs at e ⊢ with h
    · have hr := r.isLt
      have hj := j.isLt
      refine (packed_at _ _ _ _ _ _ _ _ _ _ r _ _ _ (by omega) e).trans ?_
      refine (flat_w2 _ _ _ _ _ _ _ _ _ _ _ ⟨(r.val % 32 * 16 + j.val % 16) * 5 + (j.val / 16 - r.val / 32), by omega⟩).trans ?_
      refine (cast_w2 x3 ⟨r.val % 32, by omega⟩ ⟨j.val % 16, by omega⟩ ⟨j.val / 16 - r.val / 32, by omega⟩).trans ?_
      exact (rd3_of x3 _ _ _).symm
    · exact (packed_at _ _ _ _ _ _ _ _ _ _ r _ _ _ (by omega) e).trans (params_zero ..)
  g1 r f := by
    refine (packed_at _ _ _ _ _ _ _ _ _ _ r _ _ _ (by omega) (g1_entry r f)).trans ?_
    refine (flat_g1 _ _ _ _ _ _ _ _ _ _ _ ⟨f.val * 64 + r.val, by omega⟩).trans ?_
    exact (cast_g1 x5 f r).trans (rd2_of x5 _ _).symm
  g2 r f := by
    refine (packed_at _ _ _ _ _ _ _ _ _ _ r _ _ _ (by omega) (g2_entry r f)).trans ?_
    refine (flat_g2 _ _ _ _ _ _ _ _ _ _ _ ⟨f.val * 64 + r.val, by omega⟩).trans ?_
    exact (cast_g2 x7 f r).trans (rd2_of x7 _ _).symm
  fw r f := by
    refine (packed_at _ _ _ _ _ _ _ _ _ _ r _ _ _ (by omega) (fw_entry r f)).trans ?_
    refine (flat_fw _ _ _ _ _ _ _ _ _ _ _ ⟨f.val * 64 + r.val, by omega⟩).trans ?_
    exact (cast_g2 x9 f r).trans (rd2_of x9 _ _).symm
  b1 r := by
    refine (packed_at _ _ _ _ _ _ _ _ _ _ r _ _ _ (by omega) (bias_entry r).1).trans ?_
    exact (flat_b1 _ _ _ _ _ _ _ _ _ _ _ ⟨r.val % 16, by omega⟩).trans (rd1_of x2 _).symm
  b2 r := by
    refine (packed_at _ _ _ _ _ _ _ _ _ _ r _ _ _ (by omega) (bias_entry r).2.1).trans ?_
    exact (flat_b2 _ _ _ _ _ _ _ _ _ _ _ ⟨r.val % 32, by omega⟩).trans (rd1_of x4 _).symm
  c1 r := by
    refine (packed_at _ _ _ _ _ _ _ _ _ _ r _ _ _ (by omega) (bias_entry r).2.2.1).trans ?_
    exact (flat_c1 _ _ _ _ _ _ _ _ _ _ _ r).trans (rd1_of x6 _).symm
  c2 r := by
    refine (packed_at _ _ _ _ _ _ _ _ _ _ r _ _ _ (by omega) (bias_entry r).2.2.2.1).trans ?_
    exact (flat_c2 _ _ _ _ _ _ _ _ _ _ _ r).trans (rd1_of x8 _).symm
  fb r := by
    refine (packed_at _ _ _ _ _ _ _ _ _ _ r _ _ _ (by omega) (bias_entry r).2.2.2.2).trans ?_
    exact (flat_fb _ _ _ _ _ _ _ _ _ _ _ r).trans (rd1_of x10 _).symm

variable (m : (ℓ : Loc nD τ sig) → Buf (Elt Ideal) ℓ) (c : Dev nD)

/-- The first window's array when the region starts. -/
theorem v2_eq : V m c main_v2 = phases (m ((c : Thread nD τ).loc main_arg0)) := by
  dsimp only [V, hostOps0]
  after_results
  rfl

/-- The second window's array when the region starts. -/
theorem v14_eq : V m c main_v14 = packed (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  dsimp only [V, hostOps0]
  after_results
  rfl

end Cert.KernelIdeal.Host

end
-- ==== Proof.Array.lean ====
/- What the kernel's result array holds: the network's value of every series and class. -/
module

public import proofs.«01_k».proof.Proof.Host
public import Idealize.ShloMosaic.Lib.Pipeline.ValueKit

@[expose] public section

set_option maxRecDepth 16384

noncomputable section

namespace Cert.KernelIdeal.Array

open Cert.KernelIdeal Cert.KernelIdeal.Gen Cert.KernelIdeal.Host Cert.KernelIdeal.Block Cert.Spec
open Idealize.ShloMosaic Idealize.ShloMosaic.TcCoe

variable (m : (ℓ : Loc nD τ sig) → Buf (Elt Ideal) ℓ) (c : Dev nD)

/-- The kernel's arguments, read at natural coordinates. -/
def args : Par :=
  par (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The network's value of every series and class. -/
def result : FVec Ideal S2048x64 .f32 := fun i => out (args m c) (i 0).val (i 1).val

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])

/-- The block of series a grid point reads. -/
theorem series_apply (t : Fin cfg0.N) (i : Fin 576) (u : Fin 256) :
    (iblk m c 0 t : FVec Ideal S576x256 .f32) (ix2 i u) = (args m c).x (16 * t.val + i.val / 36) (i.val % 36 / 4) (4 * u.val + i.val % 4) := by
  have ht : t.val < 128 := t.isLt
  have e : (iblk m c 0 t : FVec Ideal S576x256 .f32) (ix2 i u) = V m c main_v2 (ix2 ⟨576 * t.val + i.val, by omega⟩ u) := by
    blk_simp [iblk]
    refine congrArg (V m c main_v2) (funext fun a => Fin.ext ?_)
    match a with
    | ⟨0, _⟩ => blk_simp [index0]; show _ = 576 * t.val + i.val; omega
    | ⟨1, _⟩ => blk_simp [index0]
  rw [e, v2_eq, phases_apply]
  refine (rd3_of (m ((c : Thread nD τ).loc main_arg0)) _ _ _).symm.trans ?_
  show rd3 _ _ _ _ = rd3 _ _ _ _
  refine congr3 (rd3 (m ((c : Thread nD τ).loc main_arg0))) ?_ ?_ ?_ <;> dsimp only <;> omega

/-- The block of parameters a grid point reads is the whole packed array. -/
theorem params_eq (t : Fin cfg0.N) : (iblk m c 1 t : FVec Ideal S64x1280 .f32) = V m c main_v14 := by
  funext y
  blk_simp [iblk]
  refine congrArg (V m c main_v14) (funext fun a => Fin.ext ?_)
  match a with
  | ⟨0, _⟩ => blk_simp [index1]; try omega
  | ⟨1, _⟩ => blk_simp [index1]; try omega

/-- **What the kernel's result array holds**. -/
theorem final : (dats m 0 c).arrAt 2 cfg0.N = result m c := by
  refine (dats m 0 c).arrAt_eq_of_covers 2 _ (by decide +kernel) fun t hf y => ?_
  blk_simp
  rw [after0_2]
  have hy : y = ix2 (y 0) (y 1) := by
    funext a
    match a with
    | ⟨0, _⟩ => rfl
    | ⟨1, _⟩ => rfl
  have hw : Packed (args m c) (iblk m c 1 t) := by
    rw [params_eq, v14_eq]
    exact packed_holds _ _ _ _ _ _ _ _ _ _ _
  have hX : ∀ b ch k, 1024 ≤ k → (args m c).x b ch k = 0 := fun b ch k hk => dif_neg (by omega)
  rw [hy]
  refine (block_holds (args m c) (16 * t.val) (iblk m c 1 t) hw (iblk m c 0 t) hX (series_apply m c t) (y 0) (y 1)).trans ?_
  unfold result
  refine congrArg₂ (out (args m c)) ?_ ?_
  · blk_simp [index2]
    omega
  · blk_simp [index2]

end Cert.KernelIdeal.Array

end
-- ==== Proof.RefConv.lean ====
/- The reference's two convolutions with their poolings, read at an index: the features of the nodes. -/
module

public import proofs.«01_k».proof.Proof.Spec
public import proofs.«01_k».proof.Proof.Gen.ReferenceIdeal.Read
public import Idealize.ShloMosaic.Lib.Pointwise
public import Idealize.ShloMosaic.Lib.KernelVsHost

@[expose] public section

set_option maxRecDepth 16384

noncomputable section

namespace Cert.ReferenceIdeal.Conv

open Cert.ReferenceIdeal Cert.ReferenceIdeal.Gen Cert.ReferenceIdeal.Read Cert.Spec Idealize.ShloMosaic

/-- The padding value is zero. -/
theorem zero_pad : FloatOps.sitofp (F := Ideal) .f32 (0#32) = (0 : EReal) := by
  show ((((0#32 : BitVec 32).toInt : ℝ)) : EReal) = 0
  simp

/-- A window of one series, one channel and two positions. -/
abbrev W2 : Shape := ⟨3, ![1, 1, 2]⟩

theorem w2_apply : ∀ n : Fin 2, (W2.rowMajor.symm n 0).val = 0 ∧ (W2.rowMajor.symm n 1).val = 0 ∧ (W2.rowMajor.symm n 2).val = n.val := by
  decide +kernel

/-- A fold over two places. -/
theorem fold_two {β : Type} {N : ℕ} (hN : N = 2) (g : β → Fin N → β) (v : β) :
    (List.finRange N).foldl g v = g (g v ⟨0, by omega⟩) ⟨1, by omega⟩ := by
  subst hN
  simp [List.finRange_succ]

/-- The maximum over a window of two positions, moved by two. -/
theorem pool_apply {A B M L : ℕ} (hM : M = 2 * L) (x : (⟨3, ![A, B, M]⟩ : Shape).Idx → EReal) (init : S_.Idx → EReal) (hi : ∀ i, init i = ⊥)
    (h : (⟨3, ![A, B, M]⟩ : Shape).ReduceWindows (![1, 1, 2] : Fin 3 → ℕ) ![1, 1, 2] ![0, 0, 0] ![0, 0, 0] ⟨3, ![A, B, L]⟩) (hu : 0 < S_.numel)
    (a : Fin A) (b : Fin B) (t : Fin L) :
    Host.reduceWindow (FloatOps.maximumf (F := Ideal) (φ := .f32)) (![1, 1, 2] : Fin 3 → ℕ) ![1, 1, 2] ![0, 0, 0] ![0, 0, 0] x init h hu (ix3 a b t)
      = max (x (ix3 a b ⟨2 * t.val, by omega⟩)) (x (ix3 a b ⟨2 * t.val + 1, by omega⟩)) := by
  have ha := a.isLt
  have hb := b.isLt
  have ht := t.isLt
  have inside : ∀ n : Fin 2, ∀ c : Fin 3, (![0, 0, 0] : Fin 3 → ℕ) c ≤ (ix3 a b t (c.cast h.1.symm)).val * (![1, 1, 2] : Fin 3 → ℕ) c + (W2.rowMajor.symm n c).val
      ∧ (ix3 a b t (c.cast h.1.symm)).val * (![1, 1, 2] : Fin 3 → ℕ) c + (W2.rowMajor.symm n c).val - (![0, 0, 0] : Fin 3 → ℕ) c < (⟨3, ![A, B, M]⟩ : Shape).size c := by
    intro n c
    obtain ⟨w0, w1, w2⟩ := w2_apply n
    have hn := n.isLt
    match c with
    | ⟨0, _⟩ => show 0 ≤ a.val * 1 + (W2.rowMajor.symm n 0).val ∧ a.val * 1 + (W2.rowMajor.symm n 0).val - 0 < A; omega
    | ⟨1, _⟩ => show 0 ≤ b.val * 1 + (W2.rowMajor.symm n 1).val ∧ b.val * 1 + (W2.rowMajor.symm n 1).val - 0 < B; omega
    | ⟨2, _⟩ => show 0 ≤ t.val * 2 + (W2.rowMajor.symm n 2).val ∧ t.val * 2 + (W2.rowMajor.symm n 2).val - 0 < M; omega
  have step : ∀ n : Fin 2,
      x (fun c => ⟨(ix3 a b t (c.cast h.1.symm)).val * (![1, 1, 2] : Fin 3 → ℕ) c + (W2.rowMajor.symm n c).val - (![0, 0, 0] : Fin 3 → ℕ) c, (inside n c).2⟩)
        = x (ix3 a b ⟨2 * t.val + n.val, by omega⟩) := by
    intro n
    obtain ⟨w0, w1, w2⟩ := w2_apply n
    refine congrArg x (funext fun c => Fin.ext ?_)
    match c with
    | ⟨0, _⟩ => show a.val * 1 + (W2.rowMajor.symm n 0).val - 0 = a.val; omega
    | ⟨1, _⟩ => show b.val * 1 + (W2.rowMajor.symm n 1).val - 0 = b.val; omega
    | ⟨2, _⟩ => show t.val * 2 + (W2.rowMajor.symm n 2).val - 0 = 2 * t.val + n.val; omega
  unfold Host.reduceWindow
  refine Eq.trans (b := max (max (init (Shape.Idx.first hu)) (x (ix3 a b ⟨2 * t.val + (0 : Fin 2).val, by simp; omega⟩)))
    (x (ix3 a b ⟨2 * t.val + (1 : Fin 2).val, by simp; omega⟩))) ?_ ?_
  · refine (fold_two (N := W2.numel) (by decide) _ _).trans ?_
    exact congrArg₂ max (congrArg₂ max rfl ((dif_pos (inside 0)).trans (step 0))) ((dif_pos (inside 1)).trans (step 1))
  · rw [hi, max_eq_right bot_le]
    rfl

/-- The padded input at an index. -/
theorem v0_apply (x0 : FVec Ideal S2048x9x1024 .f32) (b : Fin 2048) (c : Fin 9) (m : Fin 1028) :
    val_main_v0 (F := Ideal) x0 (ix3 b c m) = pad2 1024 (rd3 x0) b.val c.val m.val := by
  unfold val_main_v0 pad2
  pointwise []
  by_cases h : 2 ≤ m.val ∧ m.val < 1024 + 2
  · rw [if_pos h, dif_pos (by omega)]
    exact (rd3_of x0 b c ⟨m.val - 2, by omega⟩).symm
  · rw [if_neg h, dif_neg (by omega)]
    exact zero_pad

/-- The windows of the padded input. -/
theorem v11_apply (x0 : FVec Ideal S2048x9x1024 .f32) (b : Fin 2048) (c : Fin 9) (t : Fin 1024) (k : Fin 5) :
    val_main_v11 (F := Ideal) x0 (ix4 b c t k) = pad2 1024 (rd3 x0) b.val c.val (t.val + k.val) := by
  have hz := v0_apply x0 b c
  pointwise [val_main_v11, val_main_v6, val_main_v7, val_main_v8, val_main_v9, val_main_v10, val_main_v1, val_main_v2, val_main_v3, val_main_v4, val_main_v5]
  simp only [hz]
  split_ifs <;> refine congrArg (pad2 1024 (rd3 x0) b.val c.val) ?_ <;> omega

theorem v12_apply (x0 : FVec Ideal S2048x9x1024 .f32) (x1 : FVec Ideal S16x9x5 .f32) (o : Fin 16) (b : Fin 2048) (t : Fin 1024) :
    val_main_v12 (F := Ideal) x0 x1 (ix3 o b t) = ∑ c : Fin 9, ∑ k : Fin 5, x1 (ix3 o c k) * val_main_v11 (F := Ideal) x0 (ix4 b c t k) := by
  pointwise [val_main_v12]

theorem v17_apply (x0 : FVec Ideal S2048x9x1024 .f32) (x1 : FVec Ideal S16x9x5 .f32) (x2 : FVec Ideal S16 .f32) (o : Fin 16) (b : Fin 2048) (t : Fin 1024) :
    val_main_v17 (F := Ideal) x0 x1 x2 (ix3 b o t) = max (val_main_v12 (F := Ideal) x0 x1 (ix3 o b t) + x2 (ix1 o)) 0 := by
  pointwise [val_main_v17, val_main_v16, val_main_v13, val_main_v15, val_main_v14, val_main_call1_v0, val_main_call1_cst]

/-- The initial value of the maxima is the least value. -/
theorem bot_v18 (i : S_.Idx) : val_main_v18 (F := Ideal) i = (⊥ : EReal) := by
  pointwise [val_main_v18, val_main_cst]
  simp [Ideal.ofBits, Ideal.ieee]

theorem bot_v38 (i : S_.Idx) : val_main_v38 (F := Ideal) i = (⊥ : EReal) := by
  pointwise [val_main_v38, val_main_cst_1]
  simp [Ideal.ofBits, Ideal.ieee]

theorem v19_apply (x0 : FVec Ideal S2048x9x1024 .f32) (x1 : FVec Ideal S16x9x5 .f32) (x2 : FVec Ideal S16 .f32) (o : Fin 16) (b : Fin 2048) (t : Fin 512) :
    val_main_v19 (F := Ideal) x0 x1 x2 (ix3 b o t) = max (val_main_v17 (F := Ideal) x0 x1 x2 (ix3 b o ⟨2 * t.val, by omega⟩)) (val_main_v17 (F := Ideal) x0 x1 x2 (ix3 b o ⟨2 * t.val + 1, by omega⟩)) :=
  pool_apply rfl _ _ bot_v18 _ _ b o t

variable (x0 : FVec Ideal S2048x9x1024 .f32) (x1 : FVec Ideal S16x9x5 .f32) (x2 : FVec Ideal S16 .f32) (x3 : FVec Ideal S32x16x5 .f32)
  (x4 : FVec Ideal S32 .f32)

theorem v20_apply (b : Fin 2048) (c : Fin 16) (m : Fin 516) (Y : ℕ → ℕ → ℕ → EReal)
    (hY : ∀ (b : Fin 2048) (c : Fin 16) (t : Fin 512), val_main_v19 (F := Ideal) x0 x1 x2 (ix3 b c t) = Y b.val c.val t.val) :
    val_main_v20 (F := Ideal) x0 x1 x2 (ix3 b c m) = pad2 512 Y b.val c.val m.val := by
  unfold val_main_v20 pad2
  pointwise []
  by_cases h : 2 ≤ m.val ∧ m.val < 512 + 2
  · rw [if_pos h, dif_pos (by omega)]
    exact hY b c ⟨m.val - 2, by omega⟩
  · rw [if_neg h, dif_neg (by omega)]
    exact zero_pad

theorem v31_apply (b : Fin 2048) (c : Fin 16) (t : Fin 512) (k : Fin 5) (Y : ℕ → ℕ → ℕ → EReal)
    (hY : ∀ (b : Fin 2048) (c : Fin 16) (t : Fin 512), val_main_v19 (F := Ideal) x0 x1 x2 (ix3 b c t) = Y b.val c.val t.val) :
    val_main_v31 (F := Ideal) x0 x1 x2 (ix4 b c t k) = pad2 512 Y b.val c.val (t.val + k.val) := by
  have hz := fun m => v20_apply x0 x1 x2 b c m Y hY
  pointwise [val_main_v31, val_main_v26, val_main_v27, val_main_v28, val_main_v29, val_main_v30, val_main_v21, val_main_v22, val_main_v23, val_main_v24, val_main_v25]
  simp only [hz]
  split_ifs <;> refine congrArg (pad2 512 Y b.val c.val) ?_ <;> omega

theorem v32_apply (o : Fin 32) (b : Fin 2048) (t : Fin 512) :
    val_main_v32 (F := Ideal) x0 x1 x2 x3 (ix3 o b t) = ∑ c : Fin 16, ∑ k : Fin 5, x3 (ix3 o c k) * val_main_v31 (F := Ideal) x0 x1 x2 (ix4 b c t k) := by
  pointwise [val_main_v32]

theorem v37_apply (o : Fin 32) (b : Fin 2048) (t : Fin 512) :
    val_main_v37 (F := Ideal) x0 x1 x2 x3 x4 (ix3 b o t) = max (val_main_v32 (F := Ideal) x0 x1 x2 x3 (ix3 o b t) + x4 (ix1 o)) 0 := by
  pointwise [val_main_v37, val_main_v36, val_main_v33, val_main_v35, val_main_v34, val_main_call3_v0, val_main_call3_cst]

theorem v39_apply (o : Fin 32) (b : Fin 2048) (t : Fin 256) :
    val_main_v39 (F := Ideal) x0 x1 x2 x3 x4 (ix3 b o t) = max (val_main_v37 (F := Ideal) x0 x1 x2 x3 x4 (ix3 b o ⟨2 * t.val, by omega⟩)) (val_main_v37 (F := Ideal) x0 x1 x2 x3 x4 (ix3 b o ⟨2 * t.val + 1, by omega⟩)) :=
  pool_apply rfl _ _ bot_v38 _ _ b o t

/-- The sum over channels and taps, read at natural coordinates. -/
theorem conv_sum (C L : ℕ) (w : Fin C → Fin 5 → EReal) (W : ℕ → ℕ → ℕ → EReal) (xp : ℕ → ℕ → ℕ → EReal) (b o n : ℕ)
    (hw : ∀ c k, w c k = W o c.val k.val) :
    ∑ c : Fin C, ∑ k : Fin 5, w c k * xp b c.val (n + k.val)
      = ∑ k ∈ Finset.range 5, ∑ c ∈ Finset.range C, W o c k * xp b c (n + k) := by
  rw [Finset.sum_comm, Finset.sum_range]
  refine Finset.sum_congr rfl fun k _ => ?_
  rw [Finset.sum_range]
  refine Finset.sum_congr rfl fun c _ => ?_
  rw [hw]

/-- The two ways of writing the padded input agree: beyond its end the input reads zero. -/
theorem pad_eq (b c m : ℕ) : pad2 1024 (rd3 x0) b c m = pad4 (rd3 x0) b c (m + 2) := by
  unfold pad2 pad4
  by_cases h1 : m < 2
  · rw [if_neg (by omega), if_pos (by omega)]
  · by_cases h2 : m < 1024 + 2
    · rw [if_pos (by omega), if_neg (by omega)]
      rfl
    · rw [if_neg (by omega), if_neg (by omega)]
      unfold rd3
      rw [dif_neg (show ¬(b < 2048 ∧ c < 9 ∧ m + 2 - 4 < 1024) by omega)]

/-- Taking part of the arguments for the parameters of the network. -/
structure Of (p : Par) : Prop where
  x : p.x = rd3 x0
  w1 : p.w1 = rd3 x1
  b1 : p.b1 = rd1 x2
  w2 : p.w2 = rd3 x3
  b2 : p.b2 = rd1 x4

variable {x0 x1 x2 x3 x4} {p : Par} (hp : Of x0 x1 x2 x3 x4 p)
include hp

/-- The first convolution. -/
theorem act1_holds (b : Fin 2048) (o : Fin 16) (t : Fin 1024) :
    val_main_v17 (F := Ideal) x0 x1 x2 (ix3 b o t) = act1 p b.val o.val t.val := by
  rw [v17_apply, v12_apply]
  simp only [v11_apply]
  unfold act1 conv
  rw [conv_sum 9 1024 (fun c k => x1 (ix3 o c k)) p.w1 _ _ o.val _ fun c k => by rw [hp.w1, rd3_of], hp.b1, hp.x, rd1_of]
  simp only [pad_eq]

/-- Its maxima over pairs. -/
theorem pool1_holds (b : Fin 2048) (o : Fin 16) (t : Fin 512) :
    val_main_v19 (F := Ideal) x0 x1 x2 (ix3 b o t) = pool1 p b.val o.val t.val := by
  rw [v19_apply, act1_holds hp, act1_holds hp]
  rfl

/-- The second convolution. -/
theorem act2_holds (b : Fin 2048) (o : Fin 32) (t : Fin 512) :
    val_main_v37 (F := Ideal) x0 x1 x2 x3 x4 (ix3 b o t) = act2 p b.val o.val t.val := by
  rw [v37_apply, v32_apply]
  simp only [v31_apply x0 x1 x2 _ _ _ _ _ (pool1_holds hp)]
  unfold act2 conv
  rw [conv_sum 16 512 (fun c k => x3 (ix3 o c k)) p.w2 _ _ o.val _ fun c k => by rw [hp.w2, rd3_of], hp.b2, rd1_of]

/-- **The node features**: the second convolution's maxima over pairs. -/
theorem pool2_holds (b : Fin 2048) (t : Fin 256) (f : Fin 32) :
    val_main_v40 (F := Ideal) x0 x1 x2 x3 x4 (ix3 b t f) = pool2 p b.val f.val t.val := by
  have e : val_main_v40 (F := Ideal) x0 x1 x2 x3 x4 (ix3 b t f) = val_main_v39 (F := Ideal) x0 x1 x2 x3 x4 (ix3 b f t) := by
    pointwise [val_main_v40]
  rw [e, v39_apply, act2_holds hp, act2_holds hp]
  rfl

end Cert.ReferenceIdeal.Conv

end
-- ==== Proof.RefGcn.lean ====
/- The reference's graph convolutions, its mean and its classifier, read at an index: what the reference computes. -/
module

public import proofs.«01_k».proof.Proof.RefConv

@[expose] public section

set_option maxRecDepth 16384

noncomputable section

namespace Cert.ReferenceIdeal.Gcn

open Cert.ReferenceIdeal Cert.ReferenceIdeal.Gen Cert.ReferenceIdeal.Read Cert.ReferenceIdeal.Conv Cert.Spec Idealize.ShloMosaic

/-- Two positions of a series are joined when they are equal or neighbours. -/
theorem near : ∀ i j : Fin 256, IntOp.cmpi .sle (IntOp.absi (IntOp.subi (BitVec.ofNat 32 i.val) (BitVec.ofNat 32 j.val))) 1#32
    = if i.val ≤ j.val + 1 ∧ j.val ≤ i.val + 1 then 1#1 else 0#1 := by
  decide +kernel

/-- The adjacency of the chain with self-loops. -/
theorem v50_apply (i j : Fin 256) :
    val_main_v50 (F := Ideal) (ix2 i j) = if i.val ≤ j.val + 1 ∧ j.val ≤ i.val + 1 then (1 : EReal) else 0 := by
  have e : val_main_v49 (F := Ideal) (ix2 i j) = if i.val ≤ j.val + 1 ∧ j.val ≤ i.val + 1 then 1#1 else 0#1 := by
    rw [← near]
    pointwise [val_main_v49, val_main_v48, val_main_c_2, val_main_v47, val_main_v46, val_main_v45, val_main_v44, val_main_v43, val_main_v42, val_main_v41]
  rw [val_main_v50_apply, e]
  show (((if i.val ≤ j.val + 1 ∧ j.val ≤ i.val + 1 then 1#1 else 0#1 : BitVec 1).toNat : ℝ) : EReal) = _
  split_ifs <;> simp

/-- A sum over the positions joined to `t` has at most three terms. -/
theorem sum_near (f : ℕ → EReal) (t : ℕ) (ht : t < 256) :
    ∑ s : Fin 256, (if t ≤ s.val + 1 ∧ s.val ≤ t + 1 then f s.val else 0)
      = ((if 1 ≤ t then f (t - 1) else 0) + (if t ≤ 254 then f (t + 1) else 0)) + f t := by
  have e : ∀ s ∈ Finset.range 256, (if t ≤ s + 1 ∧ s ≤ t + 1 then f s else 0)
      = ((if s = t - 1 then (if 1 ≤ t then f (t - 1) else 0) else 0) + (if s = t + 1 then f (t + 1) else 0)) + (if s = t then f t else 0) := by
    intro s _
    by_cases h1 : s = t
    · subst h1
      by_cases h0 : 1 ≤ s
      · rw [if_pos (by omega), if_neg (by omega), if_neg (by omega), if_pos rfl, zero_add, zero_add]
      · rw [if_pos (by omega), if_pos (by omega), if_neg h0, if_neg (by omega), if_pos rfl, zero_add, zero_add]
    · rw [if_neg h1, add_zero]
      by_cases h2 : s = t + 1
      · subst h2
        rw [if_pos (by omega), if_neg (by omega), if_pos rfl, zero_add]
      · rw [if_neg h2, add_zero]
        by_cases h3 : s = t - 1
        · subst h3
          rw [if_pos (by omega), if_pos rfl, if_pos (by omega)]
        · rw [if_neg h3, if_neg (by omega)]
  rw [← Finset.sum_range (n := 256) fun s : ℕ => if t ≤ s + 1 ∧ s ≤ t + 1 then f s else 0, Finset.sum_congr rfl e,
    Finset.sum_add_distrib, Finset.sum_add_distrib, Finset.sum_ite_eq' (Finset.range 256) (t - 1) fun _ => if 1 ≤ t then f (t - 1) else 0,
    Finset.sum_ite_eq' (Finset.range 256) (t + 1) fun _ => f (t + 1), Finset.sum_ite_eq' (Finset.range 256) t fun _ => f t,
    if_pos (Finset.mem_range.2 (by omega)), if_pos (Finset.mem_range.2 ht)]
  congr 2
  simp only [Finset.mem_range]
  by_cases h : t ≤ 254
  · rw [if_pos h, if_pos (by omega)]
  · rw [if_neg h, if_neg (by omega)]

/-- The degrees: two at the ends, three inside. -/
theorem degree (t : ℕ) (ht : t < 256) :
    ∑ s : Fin 256, (if t ≤ s.val + 1 ∧ s.val ≤ t + 1 then (1 : EReal) else 0)
      = if t = 0 ∨ t = 255 then ((2 : ℝ) : EReal) else ((3 : ℝ) : EReal) := by
  have one : (1 : EReal) = ((1 : ℝ) : EReal) := rfl
  rw [sum_near (fun _ => 1) t ht]
  by_cases h0 : t = 0
  · rw [if_neg (by omega), if_pos (by omega), if_pos (Or.inl h0), zero_add, one, ← EReal.coe_add]
    norm_num
  · by_cases h1 : t = 255
    · rw [if_pos (by omega), if_neg (by omega), if_pos (Or.inr h1), add_zero, one, ← EReal.coe_add]
      norm_num
    · rw [if_pos (by omega), if_pos (by omega), if_neg (by omega), one, ← EReal.coe_add, ← EReal.coe_add]
      norm_num

/-- The reciprocal square roots of the degrees. -/
theorem v52_apply (t : Fin 256) : val_main_v52 (F := Ideal) (ix1 t) = dinv t.val := by
  have e : val_main_v51 (F := Ideal) (ix1 t) = ∑ s : Fin 256, val_main_v50 (F := Ideal) (ix2 t s) := by
    pointwise [val_main_v51, val_main_cst_3]
  rw [val_main_v52_apply, e, Finset.sum_congr rfl fun s _ => v50_apply t s, degree t.val t.isLt]
  unfold dinv
  split_ifs <;> rfl

/-- The normalized adjacency. -/
theorem v58_apply (t s : Fin 256) :
    val_main_v58 (F := Ideal) (ix2 t s) = dinv t.val * (if t.val ≤ s.val + 1 ∧ s.val ≤ t.val + 1 then (1 : EReal) else 0) * dinv s.val := by
  rw [← v50_apply, ← v52_apply, ← v52_apply]
  pointwise [val_main_v58, val_main_v57, val_main_v56, val_main_v55, val_main_v54, val_main_v53]

/-- The normalized adjacency times a feature of the nodes of a series. -/
theorem sum_norm (h : ℕ → EReal) (t : Fin 256) :
    ∑ s : Fin 256, h s.val * val_main_v58 (F := Ideal) (ix2 t s) = mix h t.val := by
  have e : ∀ s : Fin 256, h s.val * val_main_v58 (F := Ideal) (ix2 t s)
      = if t.val ≤ s.val + 1 ∧ s.val ≤ t.val + 1 then (fun s => h s * (dinv s * dinv t.val)) s.val else 0 := by
    intro s
    rw [v58_apply]
    split_ifs
    · rw [mul_one, mul_comm (dinv t.val)]
    · rw [mul_zero, zero_mul, mul_zero]
  rw [Finset.sum_congr rfl fun s _ => e s]
  exact sum_near (fun s => h s * (dinv s * dinv t.val)) t.val t.isLt

variable (x0 : FVec Ideal S2048x9x1024 .f32) (x1 : FVec Ideal S16x9x5 .f32) (x2 : FVec Ideal S16 .f32) (x3 : FVec Ideal S32x16x5 .f32)
  (x4 : FVec Ideal S32 .f32) (x5 : FVec Ideal S32x64 .f32) (x6 : FVec Ideal S64 .f32) (x7 : FVec Ideal S64x64 .f32) (x8 : FVec Ideal S64 .f32)
  (x9 : FVec Ideal S64x64 .f32) (x10 : FVec Ideal S64 .f32)

theorem v59_apply (b : Fin 2048) (t : Fin 256) (o : Fin 64) :
    val_main_v59 (F := Ideal) x0 x1 x2 x3 x4 x5 (ix3 b t o) = ∑ f : Fin 32, val_main_v40 (F := Ideal) x0 x1 x2 x3 x4 (ix3 b t f) * x5 (ix2 f o) := by
  pointwise [val_main_v59]

theorem v60_apply (b : Fin 2048) (t : Fin 256) (o : Fin 64) :
    val_main_v60 (F := Ideal) x0 x1 x2 x3 x4 x5 (ix3 b o t)
      = ∑ s : Fin 256, val_main_v59 (F := Ideal) x0 x1 x2 x3 x4 x5 (ix3 b s o) * val_main_v58 (F := Ideal) (ix2 t s) := by
  pointwise [val_main_v60]

theorem v65_apply (b : Fin 2048) (t : Fin 256) (o : Fin 64) :
    val_main_v65 (F := Ideal) x0 x1 x2 x3 x4 x5 x6 (ix3 b t o) = max (val_main_v60 (F := Ideal) x0 x1 x2 x3 x4 x5 (ix3 b o t) + x6 (ix1 o)) 0 := by
  pointwise [val_main_v65, val_main_v64, val_main_v63, val_main_v62, val_main_v61, val_main_call4_v0, val_main_call4_cst]

theorem v66_apply (b : Fin 2048) (t : Fin 256) (o : Fin 64) :
    val_main_v66 (F := Ideal) x0 x1 x2 x3 x4 x5 x6 x7 (ix3 b t o)
      = ∑ f : Fin 64, val_main_v65 (F := Ideal) x0 x1 x2 x3 x4 x5 x6 (ix3 b t f) * x7 (ix2 f o) := by
  pointwise [val_main_v66]

theorem v67_apply (b : Fin 2048) (t : Fin 256) (o : Fin 64) :
    val_main_v67 (F := Ideal) x0 x1 x2 x3 x4 x5 x6 x7 (ix3 b o t)
      = ∑ s : Fin 256, val_main_v66 (F := Ideal) x0 x1 x2 x3 x4 x5 x6 x7 (ix3 b s o) * val_main_v58 (F := Ideal) (ix2 t s) := by
  pointwise [val_main_v67]

theorem v72_apply (b : Fin 2048) (t : Fin 256) (o : Fin 64) :
    val_main_v72 (F := Ideal) x0 x1 x2 x3 x4 x5 x6 x7 x8 (ix3 b t o)
      = max (val_main_v67 (F := Ideal) x0 x1 x2 x3 x4 x5 x6 x7 (ix3 b o t) + x8 (ix1 o)) 0 := by
  pointwise [val_main_v72, val_main_v71, val_main_v70, val_main_v69, val_main_v68, val_main_call5_v0, val_main_call5_cst]

theorem v73_apply (b : Fin 2048) (o : Fin 64) :
    val_main_v73 (F := Ideal) x0 x1 x2 x3 x4 x5 x6 x7 x8 (ix2 b o) = ∑ t : Fin 256, val_main_v72 (F := Ideal) x0 x1 x2 x3 x4 x5 x6 x7 x8 (ix3 b t o) := by
  pointwise [val_main_v73, val_main_cst_4]

theorem v75_apply (b : Fin 2048) (o : Fin 64) :
    val_main_v75 (F := Ideal) x0 x1 x2 x3 x4 x5 x6 x7 x8 (ix2 b o)
      = val_main_v73 (F := Ideal) x0 x1 x2 x3 x4 x5 x6 x7 x8 (ix2 b o) * ((1 / 256 : ℝ) : EReal) := by
  have h : Ideal.ofBits FTy.f32 0x43800000#32 = ((256 : ℝ) : EReal) := by
    simp [Ideal.ofBits, Ideal.ieee, -EReal.coe_mul]; norm_num
  rw [← Ideal.div_coe (by norm_num), ← h]
  pointwise [val_main_v75, val_main_v74, val_main_cst_5]

theorem v79_apply (b : Fin 2048) (o : Fin 64) :
    val_main_v79 (F := Ideal) x0 x1 x2 x3 x4 x5 x6 x7 x8 x9 x10 (ix2 b o)
      = (∑ k : Fin 64, val_main_v75 (F := Ideal) x0 x1 x2 x3 x4 x5 x6 x7 x8 (ix2 b k) * x9 (ix2 k o)) + x10 (ix1 o) := by
  pointwise [val_main_v79, val_main_v78, val_main_v77, val_main_v76]

/-- The node features after the first graph convolution. -/
theorem node1_holds (b : Fin 2048) (t : Fin 256) (o : Fin 64) :
    val_main_v65 (F := Ideal) x0 x1 x2 x3 x4 x5 x6 (ix3 b t o) = node1 (par x0 x1 x2 x3 x4 x5 x6 x7 x8 x9 x10) b.val o.val t.val := by
  have hp : Of x0 x1 x2 x3 x4 (par x0 x1 x2 x3 x4 x5 x6 x7 x8 x9 x10) := ⟨rfl, rfl, rfl, rfl, rfl⟩
  have e : ∀ s : Fin 256, val_main_v59 (F := Ideal) x0 x1 x2 x3 x4 x5 (ix3 b s o)
      = lin 32 (pool2 (par x0 x1 x2 x3 x4 x5 x6 x7 x8 x9 x10)) (rd2 x5) b.val o.val s.val := by
    intro s
    rw [v59_apply]
    unfold lin
    rw [Finset.sum_range]
    refine Finset.sum_congr rfl fun f _ => ?_
    rw [pool2_holds hp, rd2_of]
  rw [v65_apply, v60_apply, Finset.sum_congr rfl fun s _ => by rw [e s],
    sum_norm (lin 32 (pool2 (par x0 x1 x2 x3 x4 x5 x6 x7 x8 x9 x10)) (rd2 x5) b.val o.val) t, ← rd1_of x6 o]
  rfl

/-- The node features after the second graph convolution. -/
theorem node2_holds (b : Fin 2048) (t : Fin 256) (o : Fin 64) :
    val_main_v72 (F := Ideal) x0 x1 x2 x3 x4 x5 x6 x7 x8 (ix3 b t o) = node2 (par x0 x1 x2 x3 x4 x5 x6 x7 x8 x9 x10) b.val o.val t.val := by
  have e : ∀ s : Fin 256, val_main_v66 (F := Ideal) x0 x1 x2 x3 x4 x5 x6 x7 (ix3 b s o)
      = lin 64 (node1 (par x0 x1 x2 x3 x4 x5 x6 x7 x8 x9 x10)) (rd2 x7) b.val o.val s.val := by
    intro s
    rw [v66_apply]
    unfold lin
    rw [Finset.sum_range]
    refine Finset.sum_congr rfl fun f _ => ?_
    rw [node1_holds x0 x1 x2 x3 x4 x5 x6 x7 x8 x9 x10, rd2_of]
  rw [v72_apply, v67_apply, Finset.sum_congr rfl fun s _ => by rw [e s],
    sum_norm (lin 64 (node1 (par x0 x1 x2 x3 x4 x5 x6 x7 x8 x9 x10)) (rd2 x7) b.val o.val) t, ← rd1_of x8 o]
  rfl

/-- **What the reference computes**: the network's value of every series and class. -/
theorem out_holds (b : Fin 2048) (o : Fin 64) :
    val_main_v79 (F := Ideal) x0 x1 x2 x3 x4 x5 x6 x7 x8 x9 x10 (ix2 b o) = out (par x0 x1 x2 x3 x4 x5 x6 x7 x8 x9 x10) b.val o.val := by
  have e : ∀ k : Fin 64, val_main_v75 (F := Ideal) x0 x1 x2 x3 x4 x5 x6 x7 x8 (ix2 b k) = mean (par x0 x1 x2 x3 x4 x5 x6 x7 x8 x9 x10) b.val k.val := by
    intro k
    rw [v75_apply, v73_apply]
    unfold mean
    rw [Finset.sum_range]
    congr 1
    exact Finset.sum_congr rfl fun t _ => node2_holds x0 x1 x2 x3 x4 x5 x6 x7 x8 x9 x10 b t k
  rw [v79_apply]
  unfold out
  rw [Finset.sum_range, ← rd1_of x10 o]
  congr 1
  refine Finset.sum_congr rfl fun k _ => ?_
  rw [e, ← rd2_of x9]
  rfl

end Cert.ReferenceIdeal.Gcn

end
-- ==== Proof.Equation.lean ====
/- The equation: on the same arguments the reference's result is the kernel's. -/
module

public import proofs.«01_k».proof.Proof.Array
public import proofs.«01_k».proof.Proof.RefGcn

@[expose] public section

set_option maxRecDepth 16384

noncomputable section

namespace Cert.Equation

open Cert Idealize.ShloMosaic

/-- An array of series and classes read by its two coordinates. -/
theorem by_coords {v w : FVec Ideal Cert.KernelIdeal.S2048x64 .f32} (h : ∀ (b : Fin 2048) (o : Fin 64), v (ix2 b o) = w (ix2 b o)) : v = w := by
  funext i
  have e : i = ix2 (i 0) (i 1) := by
    funext a
    match a with
    | ⟨0, _⟩ => rfl
    | ⟨1, _⟩ => rfl
  rw [e]
  exact h _ _

/-- The reference's result, on arguments equal to the kernel's, is the network's value of the kernel's arguments. -/
theorem reference_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10)) :
    ReferenceIdeal.Value.res_main_v79 m' c = KernelIdeal.Array.result m c := by
  rw [ReferenceIdeal.Read.val_main_v79_eq m' c]
  refine (?_ : ReferenceIdeal.Read.val_main_v79 (F := Ideal) _ _ _ _ _ _ _ _ _ _ _ = _)
  rw [h0, h1, h2, h3, h4, h5, h6, h7, h8, h9, h10]
  exact by_coords fun b o => ReferenceIdeal.Gcn.out_holds _ _ _ _ _ _ _ _ _ _ _ b o

end Cert.Equation

end
-- ==== Proof.lean ====
/- The certificate: the five claims, from the generated frames and runs and the equation of the two results. -/
module

public import proofs.«01_k».proof.Defs
public import proofs.«01_k».proof.Proof.Gen.Kernel.Frame
public import proofs.«01_k».proof.Proof.Equation
public import Idealize.ShloMosaic.Adequacy
public import Idealize.ShloMosaic.Init

@[expose] public section

noncomputable section

namespace Cert.Proof

open Idealize.ShloMosaic Idealize.SL.Sem

/-- The kernel runs, keeps its arguments and ends quiet. -/
theorem frame_kernel : @Cert.quiescent_Kernel Cert.Kernel.Gen.facts := fun m ρ _ => Cert.Kernel.Gen.frame m ρ

/-- The kernel over the extended reals runs, keeps its arguments and ends quiet. -/
theorem frame_ideal : @Cert.quiescent_KernelIdeal Cert.KernelIdeal.Gen.facts := fun m ρ _ => Cert.KernelIdeal.Gen.frame m ρ

/-- The reference runs, keeps its arguments and, having no semaphore, ends quiet. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run m ρ)

/-- **The kernel computes the reference**: both end with the network's value of every series and class. -/
theorem algebraic : @Cert.algebraic_KernelIdeal_ReferenceIdeal Cert.KernelIdeal.Gen.facts Cert.ReferenceIdeal.Gen.facts := by
  intro m g m' g' _ hagree
  refine ⟨fun c => Cert.KernelIdeal.Array.result m c, ?_, ?_⟩
  · exact (θ_run Cert.KernelIdeal.defs _ _).mono
      (fun r h c => ⟨(h c).1.trans (Cert.KernelIdeal.Array.final m c), (h c).2⟩) (Cert.KernelIdeal.Value.run_blocks m g)
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9, h10⟩ := hagree c
    exact Cert.Equation.reference_eq m m' c h0 h1 h2 h3 h4 h5 h6 h7 h8 h9 h10

/-- Everything the certificate claims. -/
theorem claim : Cert.Claim :=
  ⟨Cert.Kernel.Gen.facts, Cert.KernelIdeal.Gen.facts, Cert.ReferenceIdeal.Gen.facts, frame_kernel, frame_ideal, frame_reference, trivial, algebraic⟩

end Cert.Proof

end
